-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S2x512x768 .f32) (main_arg1 : FVec F S768x512 .f32) (main_arg2 : FVec F S16x512x64x64 .f32) (main_arg3 : FVec F S16x512x64x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Pre_finite_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S16x512x768 .f32) (main_arg1 : FVec F S768x4096 .f32) (main_arg2 : FVec F S16x512x64x64 .f32) (main_arg3 : FVec F S16x512x64x64 .f32) (main_arg4 : FVec F S4096x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩
abbrev S2x512x64x64 : Shape := ⟨4, ![2, 512, 64, 64]⟩
abbrev S2x64x64x512 : Shape := ⟨4, ![2, 64, 64, 512]⟩
abbrev S768x256 : Shape := ⟨2, ![768, 256]⟩
abbrev S256x768 : Shape := ⟨2, ![256, 768]⟩
abbrev S8x768x256 : Shape := ⟨3, ![8, 768, 256]⟩
abbrev S8x256x768 : Shape := ⟨3, ![8, 256, 768]⟩
abbrev S1024x2048 : Shape := ⟨2, ![1024, 2048]⟩
abbrev S8 : Shape := ⟨1, ![8]⟩
abbrev S512x512 : Shape := ⟨2, ![512, 512]⟩
abbrev S1024x768 : Shape := ⟨2, ![1024, 768]⟩
abbrev S1x256x768 : Shape := ⟨3, ![1, 256, 768]⟩
abbrev S1 : Shape := ⟨1, ![1]⟩
abbrev S1x768x256 : Shape := ⟨3, ![1, 768, 256]⟩
abbrev S1024x256 : Shape := ⟨2, ![1024, 256]⟩
abbrev S512x64 : Shape := ⟨2, ![512, 64]⟩
abbrev S1x1x64x512 : Shape := ⟨4, ![1, 1, 64, 512]⟩
abbrev S1x64x512 : Shape := ⟨3, ![1, 64, 512]⟩
abbrev S64x512 : Shape := ⟨2, ![64, 512]⟩
abbrev S512 : Shape := ⟨1, ![512]⟩
abbrev S512x1 : Shape := ⟨2, ![512, 1]⟩
abbrev S512x256 : Shape := ⟨2, ![512, 256]⟩
abbrev S2048x768 : Shape := ⟨2, ![2048, 768]⟩

abbrev nBuf : Space → Nat
  | .hbm => 48
  | .vmem => 14
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S16x512x64x64, .f32⟩
  | .hbm, ⟨3, _⟩ => ⟨S16x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x64x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x64x64, .f32⟩
  | .hbm, ⟨33, _⟩ => ⟨S2x64x64x512, .f32⟩
  | .hbm, ⟨34, _⟩ => ⟨S2x64x64x512, .bf16⟩
  | .hbm, ⟨35, _⟩ => ⟨S2x64x64x512, .f32⟩
  | .hbm, ⟨36, _⟩ => ⟨S2x64x64x512, .bf16⟩
  | .hbm, ⟨37, _⟩ => ⟨S2x512x768, .bf16⟩
  | .hbm, ⟨38, _⟩ => ⟨S_, .f32⟩
  | .hbm, ⟨39, _⟩ => ⟨S768x512, .f32⟩
  | .hbm, ⟨40, _⟩ => ⟨S768x512, .f32⟩
  | .hbm, ⟨41, _⟩ => ⟨S768x512, .bf16⟩
  | .hbm, ⟨42, _⟩ => ⟨S512x768, .bf16⟩
  | .hbm, ⟨43, _⟩ => ⟨S768x256, .bf16⟩
  | .hbm, ⟨44, _⟩ => ⟨S768x256, .bf16⟩
  | .hbm, ⟨45, _⟩ => ⟨S256x768, .bf16⟩
  | .hbm, ⟨46, _⟩ => ⟨S256x768, .bf16⟩
  | .hbm, ⟨47, _⟩ => ⟨S2x512x768, .f32⟩
  | .local _ .vmem, ⟨0, _⟩ => ⟨S2x512x768, .bf16⟩
  | .local _ .vmem, ⟨1, _⟩ => ⟨S768x256, .bf16⟩
  | .local _ .vmem, ⟨2, _⟩ => ⟨S768x256, .bf16⟩
  | .local _ .vmem, ⟨3, _⟩ => ⟨S256x768, .bf16⟩
  | .local _ .vmem, ⟨4, _⟩ => ⟨S256x768, .bf16⟩
  | .local _ .vmem, ⟨5, _⟩ => ⟨S2x64x64x512, .bf16⟩
  | .local _ .vmem, ⟨6, _⟩ => ⟨S2x64x64x512, .bf16⟩
  | .local _ .vmem, ⟨7, _⟩ => ⟨S2x512x768, .f32⟩
  | .local _ .vmem, ⟨8, _⟩ => ⟨S8x768x256, .bf16⟩
  | .local _ .vmem, ⟨9, _⟩ => ⟨S8x256x768, .bf16⟩
  | .local _ .vmem, ⟨10, _⟩ => ⟨S8x768x256, .bf16⟩
  | .local _ .vmem, ⟨11, _⟩ => ⟨S8x256x768, .bf16⟩
  | .local _ .vmem, ⟨12, _⟩ => ⟨S1024x2048, .bf16⟩
  | .local _ .vmem, ⟨13, _⟩ => ⟨S1024x2048, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_24 : BitVec 32 := 1#32
  let v32 : BitVec 32 := Scalar.muli v16 c1_i32_24
  let v33 : BitVec 32 := Scalar.addi c0_i32_25 v32
  v33.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_27 : BitVec 32 := 1#32
  let v34 : BitVec 32 := Scalar.muli v30 c1_i32_27
  let v35 : BitVec 32 := Scalar.addi c0_i32_28 v34
  v35.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_58 : BitVec 32 := 1#32
  let v100 : BitVec 32 := Scalar.muli v30 c1_i32_58
  let v101 : BitVec 32 := Scalar.addi c0_i32_59 v100
  v101.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_66 : BitVec 32 := 1#32
  let v108 : BitVec 32 := Scalar.muli v30 c1_i32_66
  let v109 : BitVec 32 := Scalar.addi c0_i32_67 v108
  v109.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_75 : BitVec 32 := 1#32
  let v118 : BitVec 32 := Scalar.muli v16 c1_i32_75
  let v119 : BitVec 32 := Scalar.addi c0_i32_76 v118
  v119.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_83 : BitVec 32 := 1#32
  let v126 : BitVec 32 := Scalar.muli v16 c1_i32_83
  let v127 : BitVec 32 := Scalar.addi c0_i32_84 v126
  v127.toNat
def k0_off1 (d0 : Dev nD) (c0_i32_94 : BitVec 32) : Fin 4 → Nat :=
  let c0_95 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_93 : BitVec 32 := 8#32
  let v140 : BitVec 32 := Scalar.muli v2 c8_i32_93
  let v144 : BitVec 32 := Scalar.addi v140 c0_i32_94
  let v145 : Index := Scalar.indexCast v144
  let c0_96 : Index := 0#32
  let c0_97 : Index := 0#32
  ![0, v145.toNat, 0, 0]
def k0_off2 (d0 : Dev nD) (c0_i32_144 : BitVec 32) : Fin 4 → Nat :=
  let c1 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_93 : BitVec 32 := 8#32
  let v140 : BitVec 32 := Scalar.muli v2 c8_i32_93
  let v240 : BitVec 32 := Scalar.addi v140 c0_i32_144
  let v241 : Index := Scalar.indexCast v240
  let c0_145 : Index := 0#32
  let c0_146 : Index := 0#32
  ![1, v241.toNat, 0, 0]
def k0_off3 (d0 : Dev nD) (c0_i32_195 : BitVec 32) : Fin 4 → Nat :=
  let c0_196 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_192 : BitVec 32 := 8#32
  let v335 : BitVec 32 := Scalar.muli v2 c8_i32_192
  let c4_i32_193 : BitVec 32 := 4#32
  let v336 : BitVec 32 := Scalar.addi v335 c4_i32_193
  let v340 : BitVec 32 := Scalar.addi v336 c0_i32_195
  let v341 : Index := Scalar.indexCast v340
  let c0_197 : Index := 0#32
  let c0_198 : Index := 0#32
  ![0, v341.toNat, 0, 0]
def k0_off4 (d0 : Dev nD) (c0_i32_245 : BitVec 32) : Fin 4 → Nat :=
  let c1_246 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_192 : BitVec 32 := 8#32
  let v335 : BitVec 32 := Scalar.muli v2 c8_i32_192
  let c4_i32_193 : BitVec 32 := 4#32
  let v336 : BitVec 32 := Scalar.addi v335 c4_i32_193
  let v436 : BitVec 32 := Scalar.addi v336 c0_i32_245
  let v437 : Index := Scalar.indexCast v436
  let c0_247 : Index := 0#32
  let c0_248 : Index := 0#32
  ![1, v437.toNat, 0, 0]
def k0_dev7 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_363 : BitVec 32 := 1#32
  let v587 : BitVec 32 := Scalar.muli v30 c1_i32_363
  let v588 : BitVec 32 := Scalar.addi c0_i32_364 v587
  v588.toNat
def k0_dev8 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_373 : BitVec 32 := 1#32
  let v597 : BitVec 32 := Scalar.muli v30 c1_i32_373
  let v598 : BitVec 32 := Scalar.addi c0_i32_374 v597
  v598.toNat
def k0_dev9 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_383 : BitVec 32 := 1#32
  let v607 : BitVec 32 := Scalar.muli v16 c1_i32_383
  let v608 : BitVec 32 := Scalar.addi c0_i32_384 v607
  v608.toNat
def k0_dev10 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_393 : BitVec 32 := 1#32
  let v617 : BitVec 32 := Scalar.muli v16 c1_i32_393
  let v618 : BitVec 32 := Scalar.addi c0_i32_394 v617
  v618.toNat
def k0_off5 (d0 : Dev nD) (c3_i32_343 : BitVec 32) (c7_i32_341 : BitVec 32) (c6_i32_339 : BitVec 32) (c5_i32_337 : BitVec 32) (c2_i32_335 : BitVec 32) (c1_i32_333 : BitVec 32) (c0_i32_330 : BitVec 32) (c4_i32_331 : BitVec 32) (c0_i32_407 : BitVec 32) : Fin 4 → Nat :=
  let c0_408 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_342 : BitVec 32 := 7#32
  let v571 : BitVec 1 := Scalar.cmpi .eq v2 c7_i32_342
  let c6_i32_340 : BitVec 32 := 6#32
  let v569 : BitVec 1 := Scalar.cmpi .eq v2 c6_i32_340
  let c5_i32_338 : BitVec 32 := 5#32
  let v567 : BitVec 1 := Scalar.cmpi .eq v2 c5_i32_338
  let c4_i32_336 : BitVec 32 := 4#32
  let v565 : BitVec 1 := Scalar.cmpi .eq v2 c4_i32_336
  let c3_i32_334 : BitVec 32 := 3#32
  let v563 : BitVec 1 := Scalar.cmpi .eq v2 c3_i32_334
  let c2_i32_332 : BitVec 32 := 2#32
  let v561 : BitVec 1 := Scalar.cmpi .eq v2 c2_i32_332
  let c1_i32_329 : BitVec 32 := 1#32
  let v559 : BitVec 1 := Scalar.cmpi .eq v2 c1_i32_329
  let v560 : BitVec 32 := Scalar.select v559 c0_i32_330 c4_i32_331
  let v562 : BitVec 32 := Scalar.select v561 c1_i32_333 v560
  let v564 : BitVec 32 := Scalar.select v563 c2_i32_335 v562
  let v566 : BitVec 32 := Scalar.select v565 c5_i32_337 v564
  let v568 : BitVec 32 := Scalar.select v567 c6_i32_339 v566
  let v570 : BitVec 32 := Scalar.select v569 c7_i32_341 v568
  let v572 : BitVec 32 := Scalar.select v571 c3_i32_343 v570
  let c8_i32_405 : BitVec 32 := 8#32
  let v631 : BitVec 32 := Scalar.muli v572 c8_i32_405
  let v635 : BitVec 32 := Scalar.addi v631 c0_i32_407
  let v636 : Index := Scalar.indexCast v635
  let c0_409 : Index := 0#32
  let c0_410 : Index := 0#32
  ![0, v636.toNat, 0, 0]
def k0_off5_at (r : Fin 28) : BitVec 32 × BitVec 32 × BitVec 32 × BitVec 32 × BitVec 32 × BitVec 32 × BitVec 32 × BitVec 32 × BitVec 32 :=
  if r.val < 14 then
    if r.val < 7 then
      if r.val < 3 then
        if r.val < 1 then
          (3#32, 7#32, 6#32, 5#32, 2#32, 1#32, 0#32, 4#32, 0#32)
        else
          if r.val < 2 then
            (3#32, 7#32, 6#32, 5#32, 2#32, 1#32, 0#32, 4#32, 1#32)
          else
            (3#32, 7#32, 6#32, 5#32, 2#32, 1#32, 0#32, 4#32, 2#32)
      else
        if r.val < 5 then
          if r.val < 4 then
            (3#32, 7#32, 6#32, 5#32, 2#32, 1#32, 0#32, 4#32, 3#32)
          else
            (2#32, 3#32, 7#32, 6#32, 1#32, 0#32, 4#32, 5#32, 0#32)
        else
          if r.val < 6 then
            (2#32, 3#32, 7#32, 6#32, 1#32, 0#32, 4#32, 5#32, 1#32)
          else
            (2#32, 3#32, 7#32, 6#32, 1#32, 0#32, 4#32, 5#32, 2#32)
    else
      if r.val < 10 then
        if r.val < 8 then
          (2#32, 3#32, 7#32, 6#32, 1#32, 0#32, 4#32, 5#32, 3#32)
        else
          if r.val < 9 then
            (1#32, 2#32, 3#32, 7#32, 0#32, 4#32, 5#32, 6#32, 0#32)
          else
            (1#32, 2#32, 3#32, 7#32, 0#32, 4#32, 5#32, 6#32, 1#32)
      else
        if r.val < 12 then
          if r.val < 11 then
            (1#32, 2#32, 3#32, 7#32, 0#32, 4#32, 5#32, 6#32, 2#32)
          else
            (1#32, 2#32, 3#32, 7#32, 0#32, 4#32, 5#32, 6#32, 3#32)
        else
          if r.val < 13 then
            (0#32, 1#32, 2#32, 3#32, 4#32, 5#32, 6#32, 7#32, 0#32)
          else
            (0#32, 1#32, 2#32, 3#32, 4#32, 5#32, 6#32, 7#32, 1#32)
  else
    if r.val < 21 then
      if r.val < 17 then
        if r.val < 15 then
          (0#32, 1#32, 2#32, 3#32, 4#32, 5#32, 6#32, 7#32, 2#32)
        else
          if r.val < 16 then
            (0#32, 1#32, 2#32, 3#32, 4#32, 5#32, 6#32, 7#32, 3#32)
          else
            (4#32, 0#32, 1#32, 2#32, 5#32, 6#32, 7#32, 3#32, 0#32)
      else
        if r.val < 19 then
          if r.val < 18 then
            (4#32, 0#32, 1#32, 2#32, 5#32, 6#32, 7#32, 3#32, 1#32)
          else
            (4#32, 0#32, 1#32, 2#32, 5#32, 6#32, 7#32, 3#32, 2#32)
        else
          if r.val < 20 then
            (4#32, 0#32, 1#32, 2#32, 5#32, 6#32, 7#32, 3#32, 3#32)
          else
            (5#32, 4#32, 0#32, 1#32, 6#32, 7#32, 3#32, 2#32, 0#32)
    else
      if r.val < 24 then
        if r.val < 22 then
          (5#32, 4#32, 0#32, 1#32, 6#32, 7#32, 3#32, 2#32, 1#32)
        else
          if r.val < 23 then
            (5#32, 4#32, 0#32, 1#32, 6#32, 7#32, 3#32, 2#32, 2#32)
          else
            (5#32, 4#32, 0#32, 1#32, 6#32, 7#32, 3#32, 2#32, 3#32)
      else
        if r.val < 26 then
          if r.val < 25 then
            (6#32, 5#32, 4#32, 0#32, 7#32, 3#32, 2#32, 1#32, 0#32)
          else
            (6#32, 5#32, 4#32, 0#32, 7#32, 3#32, 2#32, 1#32, 1#32)
        else
          if r.val < 27 then
            (6#32, 5#32, 4#32, 0#32, 7#32, 3#32, 2#32, 1#32, 2#32)
          else
            (6#32, 5#32, 4#32, 0#32, 7#32, 3#32, 2#32, 1#32, 3#32)
def k0_off6 (d0 : Dev nD) (c3_i32_343 : BitVec 32) (c7_i32_341 : BitVec 32) (c6_i32_339 : BitVec 32) (c5_i32_337 : BitVec 32) (c2_i32_335 : BitVec 32) (c1_i32_333 : BitVec 32) (c0_i32_330 : BitVec 32) (c4_i32_331 : BitVec 32) (c0_i32_456 : BitVec 32) : Fin 4 → Nat :=
  let c1_457 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_342 : BitVec 32 := 7#32
  let v571 : BitVec 1 := Scalar.cmpi .eq v2 c7_i32_342
  let c6_i32_340 : BitVec 32 := 6#32
  let v569 : BitVec 1 := Scalar.cmpi .eq v2 c6_i32_340
  let c5_i32_338 : BitVec 32 := 5#32
  let v567 : BitVec 1 := Scalar.cmpi .eq v2 c5_i32_338
  let c4_i32_336 : BitVec 32 := 4#32
  let v565 : BitVec 1 := Scalar.cmpi .eq v2 c4_i32_336
  let c3_i32_334 : BitVec 32 := 3#32
  let v563 : BitVec 1 := Scalar.cmpi .eq v2 c3_i32_334
  let c2_i32_332 : BitVec 32 := 2#32
  let v561 : BitVec 1 := Scalar.cmpi .eq v2 c2_i32_332
  let c1_i32_329 : BitVec 32 := 1#32
  let v559 : BitVec 1 := Scalar.cmpi .eq v2 c1_i32_329
  let v560 : BitVec 32 := Scalar.select v559 c0_i32_330 c4_i32_331
  let v562 : BitVec 32 := Scalar.select v561 c1_i32_333 v560
  let v564 : BitVec 32 := Scalar.select v563 c2_i32_335 v562
  let v566 : BitVec 32 := Scalar.select v565 c5_i32_337 v564
  let v568 : BitVec 32 := Scalar.select v567 c6_i32_339 v566
  let v570 : BitVec 32 := Scalar.select v569 c7_i32_341 v568
  let v572 : BitVec 32 := Scalar.select v571 c3_i32_343 v570
  let c8_i32_405 : BitVec 32 := 8#32
  let v631 : BitVec 32 := Scalar.muli v572 c8_i32_405
  let v731 : BitVec 32 := Scalar.addi v631 c0_i32_456
  let v732 : Index := Scalar.indexCast v731
  let c0_458 : Index := 0#32
  let c0_459 : Index := 0#32
  ![1, v732.toNat, 0, 0]
def k0_off6_at (r : Fin 28) : BitVec 32 × BitVec 32 × BitVec 32 × BitVec 32 × BitVec 32 × BitVec 32 × BitVec 32 × BitVec 32 × BitVec 32 :=
  if r.val < 14 then
    if r.val < 7 then
      if r.val < 3 then
        if r.val < 1 then
          (3#32, 7#32, 6#32, 5#32, 2#32, 1#32, 0#32, 4#32, 0#32)
        else
          if r.val < 2 then
            (3#32, 7#32, 6#32, 5#32, 2#32, 1#32, 0#32, 4#32, 1#32)
          else
            (3#32, 7#32, 6#32, 5#32, 2#32, 1#32, 0#32, 4#32, 2#32)
      else
        if r.val < 5 then
          if r.val < 4 then
            (3#32, 7#32, 6#32, 5#32, 2#32, 1#32, 0#32, 4#32, 3#32)
          else
            (2#32, 3#32, 7#32, 6#32, 1#32, 0#32, 4#32, 5#32, 0#32)
        else
          if r.val < 6 then
            (2#32, 3#32, 7#32, 6#32, 1#32, 0#32, 4#32, 5#32, 1#32)
          else
            (2#32, 3#32, 7#32, 6#32, 1#32, 0#32, 4#32, 5#32, 2#32)
    else
      if r.val < 10 then
        if r.val < 8 then
          (2#32, 3#32, 7#32, 6#32, 1#32, 0#32, 4#32, 5#32, 3#32)
        else
          if r.val < 9 then
            (1#32, 2#32, 3#32, 7#32, 0#32, 4#32, 5#32, 6#32, 0#32)
          else
            (1#32, 2#32, 3#32, 7#32, 0#32, 4#32, 5#32, 6#32, 1#32)
      else
        if r.val < 12 then
          if r.val < 11 then
            (1#32, 2#32, 3#32, 7#32, 0#32, 4#32, 5#32, 6#32, 2#32)
          else
            (1#32, 2#32, 3#32, 7#32, 0#32, 4#32, 5#32, 6#32, 3#32)
        else
          if r.val < 13 then
            (0#32, 1#32, 2#32, 3#32, 4#32, 5#32, 6#32, 7#32, 0#32)
          else
            (0#32, 1#32, 2#32, 3#32, 4#32, 5#32, 6#32, 7#32, 1#32)
  else
    if r.val < 21 then
      if r.val < 17 then
        if r.val < 15 then
          (0#32, 1#32, 2#32, 3#32, 4#32, 5#32, 6#32, 7#32, 2#32)
        else
          if r.val < 16 then
            (0#32, 1#32, 2#32, 3#32, 4#32, 5#32, 6#32, 7#32, 3#32)
          else
            (4#32, 0#32, 1#32, 2#32, 5#32, 6#32, 7#32, 3#32, 0#32)
      else
        if r.val < 19 then
          if r.val < 18 then
            (4#32, 0#32, 1#32, 2#32, 5#32, 6#32, 7#32, 3#32, 1#32)
          else
            (4#32, 0#32, 1#32, 2#32, 5#32, 6#32, 7#32, 3#32, 2#32)
        else
          if r.val < 20 then
            (4#32, 0#32, 1#32, 2#32, 5#32, 6#32, 7#32, 3#32, 3#32)
          else
            (5#32, 4#32, 0#32, 1#32, 6#32, 7#32, 3#32, 2#32, 0#32)
    else
      if r.val < 24 then
        if r.val < 22 then
          (5#32, 4#32, 0#32, 1#32, 6#32, 7#32, 3#32, 2#32, 1#32)
        else
          if r.val < 23 then
            (5#32, 4#32, 0#32, 1#32, 6#32, 7#32, 3#32, 2#32, 2#32)
          else
            (5#32, 4#32, 0#32, 1#32, 6#32, 7#32, 3#32, 2#32, 3#32)
      else
        if r.val < 26 then
          if r.val < 25 then
            (6#32, 5#32, 4#32, 0#32, 7#32, 3#32, 2#32, 1#32, 0#32)
          else
            (6#32, 5#32, 4#32, 0#32, 7#32, 3#32, 2#32, 1#32, 1#32)
        else
          if r.val < 27 then
            (6#32, 5#32, 4#32, 0#32, 7#32, 3#32, 2#32, 1#32, 2#32)
          else
            (6#32, 5#32, 4#32, 0#32, 7#32, 3#32, 2#32, 1#32, 3#32)
def k0_off7 (d0 : Dev nD) (c6_i32_358 : BitVec 32) (c5_i32_356 : BitVec 32) (c4_i32_354 : BitVec 32) (c0_i32_352 : BitVec 32) (c7_i32_350 : BitVec 32) (c3_i32_348 : BitVec 32) (c2_i32_345 : BitVec 32) (c1_i32_346 : BitVec 32) (c0_i32_509 : BitVec 32) : Fin 4 → Nat :=
  let c0_510 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_357 : BitVec 32 := 7#32
  let v585 : BitVec 1 := Scalar.cmpi .eq v2 c7_i32_357
  let c6_i32_355 : BitVec 32 := 6#32
  let v583 : BitVec 1 := Scalar.cmpi .eq v2 c6_i32_355
  let c5_i32_353 : BitVec 32 := 5#32
  let v581 : BitVec 1 := Scalar.cmpi .eq v2 c5_i32_353
  let c4_i32_351 : BitVec 32 := 4#32
  let v579 : BitVec 1 := Scalar.cmpi .eq v2 c4_i32_351
  let c3_i32_349 : BitVec 32 := 3#32
  let v577 : BitVec 1 := Scalar.cmpi .eq v2 c3_i32_349
  let c2_i32_347 : BitVec 32 := 2#32
  let v575 : BitVec 1 := Scalar.cmpi .eq v2 c2_i32_347
  let c1_i32_344 : BitVec 32 := 1#32
  let v573 : BitVec 1 := Scalar.cmpi .eq v2 c1_i32_344
  let v574 : BitVec 32 := Scalar.select v573 c2_i32_345 c1_i32_346
  let v576 : BitVec 32 := Scalar.select v575 c3_i32_348 v574
  let v578 : BitVec 32 := Scalar.select v577 c7_i32_350 v576
  let v580 : BitVec 32 := Scalar.select v579 c0_i32_352 v578
  let v582 : BitVec 32 := Scalar.select v581 c4_i32_354 v580
  let v584 : BitVec 32 := Scalar.select v583 c5_i32_356 v582
  let v586 : BitVec 32 := Scalar.select v585 c6_i32_358 v584
  let c8_i32_506 : BitVec 32 := 8#32
  let v826 : BitVec 32 := Scalar.muli v586 c8_i32_506
  let c4_i32_507 : BitVec 32 := 4#32
  let v827 : BitVec 32 := Scalar.addi v826 c4_i32_507
  let v831 : BitVec 32 := Scalar.addi v827 c0_i32_509
  let v832 : Index := Scalar.indexCast v831
  let c0_511 : Index := 0#32
  let c0_512 : Index := 0#32
  ![0, v832.toNat, 0, 0]
def k0_off7_at (r : Fin 28) : BitVec 32 × BitVec 32 × BitVec 32 × BitVec 32 × BitVec 32 × BitVec 32 × BitVec 32 × BitVec 32 × BitVec 32 :=
  if r.val < 14 then
    if r.val < 7 then
      if r.val < 3 then
        if r.val < 1 then
          (6#32, 5#32, 4#32, 0#32, 7#32, 3#32, 2#32, 1#32, 0#32)
        else
          if r.val < 2 then
            (6#32, 5#32, 4#32, 0#32, 7#32, 3#32, 2#32, 1#32, 1#32)
          else
            (6#32, 5#32, 4#32, 0#32, 7#32, 3#32, 2#32, 1#32, 2#32)
      else
        if r.val < 5 then
          if r.val < 4 then
            (6#32, 5#32, 4#32, 0#32, 7#32, 3#32, 2#32, 1#32, 3#32)
          else
            (5#32, 4#32, 0#32, 1#32, 6#32, 7#32, 3#32, 2#32, 0#32)
        else
          if r.val < 6 then
            (5#32, 4#32, 0#32, 1#32, 6#32, 7#32, 3#32, 2#32, 1#32)
          else
            (5#32, 4#32, 0#32, 1#32, 6#32, 7#32, 3#32, 2#32, 2#32)
    else
      if r.val < 10 then
        if r.val < 8 then
          (5#32, 4#32, 0#32, 1#32, 6#32, 7#32, 3#32, 2#32, 3#32)
        else
          if r.val < 9 then
            (4#32, 0#32, 1#32, 2#32, 5#32, 6#32, 7#32, 3#32, 0#32)
          else
            (4#32, 0#32, 1#32, 2#32, 5#32, 6#32, 7#32, 3#32, 1#32)
      else
        if r.val < 12 then
          if r.val < 11 then
            (4#32, 0#32, 1#32, 2#32, 5#32, 6#32, 7#32, 3#32, 2#32)
          else
            (4#32, 0#32, 1#32, 2#32, 5#32, 6#32, 7#32, 3#32, 3#32)
        else
          if r.val < 13 then
            (0#32, 1#32, 2#32, 3#32, 4#32, 5#32, 6#32, 7#32, 0#32)
          else
            (0#32, 1#32, 2#32, 3#32, 4#32, 5#32, 6#32, 7#32, 1#32)
  else
    if r.val < 21 then
      if r.val < 17 then
        if r.val < 15 then
          (0#32, 1#32, 2#32, 3#32, 4#32, 5#32, 6#32, 7#32, 2#32)
        else
          if r.val < 16 then
            (0#32, 1#32, 2#32, 3#32, 4#32, 5#32, 6#32, 7#32, 3#32)
          else
            (1#32, 2#32, 3#32, 7#32, 0#32, 4#32, 5#32, 6#32, 0#32)
      else
        if r.val < 19 then
          if r.val < 18 then
            (1#32, 2#32, 3#32, 7#32, 0#32, 4#32, 5#32, 6#32, 1#32)
          else
            (1#32, 2#32, 3#32, 7#32, 0#32, 4#32, 5#32, 6#32, 2#32)
        else
          if r.val < 20 then
            (1#32, 2#32, 3#32, 7#32, 0#32, 4#32, 5#32, 6#32, 3#32)
          else
            (2#32, 3#32, 7#32, 6#32, 1#32, 0#32, 4#32, 5#32, 0#32)
    else
      if r.val < 24 then
        if r.val < 22 then
          (2#32, 3#32, 7#32, 6#32, 1#32, 0#32, 4#32, 5#32, 1#32)
        else
          if r.val < 23 then
            (2#32, 3#32, 7#32, 6#32, 1#32, 0#32, 4#32, 5#32, 2#32)
          else
            (2#32, 3#32, 7#32, 6#32, 1#32, 0#32, 4#32, 5#32, 3#32)
      else
        if r.val < 26 then
          if r.val < 25 then
            (3#32, 7#32, 6#32, 5#32, 2#32, 1#32, 0#32, 4#32, 0#32)
          else
            (3#32, 7#32, 6#32, 5#32, 2#32, 1#32, 0#32, 4#32, 1#32)
        else
          if r.val < 27 then
            (3#32, 7#32, 6#32, 5#32, 2#32, 1#32, 0#32, 4#32, 2#32)
          else
            (3#32, 7#32, 6#32, 5#32, 2#32, 1#32, 0#32, 4#32, 3#32)
def k0_off8 (d0 : Dev nD) (c6_i32_358 : BitVec 32) (c5_i32_356 : BitVec 32) (c4_i32_354 : BitVec 32) (c0_i32_352 : BitVec 32) (c7_i32_350 : BitVec 32) (c3_i32_348 : BitVec 32) (c2_i32_345 : BitVec 32) (c1_i32_346 : BitVec 32) (c0_i32_559 : BitVec 32) : Fin 4 → Nat :=
  let c1_560 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_357 : BitVec 32 := 7#32
  let v585 : BitVec 1 := Scalar.cmpi .eq v2 c7_i32_357
  let c6_i32_355 : BitVec 32 := 6#32
  let v583 : BitVec 1 := Scalar.cmpi .eq v2 c6_i32_355
  let c5_i32_353 : BitVec 32 := 5#32
  let v581 : BitVec 1 := Scalar.cmpi .eq v2 c5_i32_353
  let c4_i32_351 : BitVec 32 := 4#32
  let v579 : BitVec 1 := Scalar.cmpi .eq v2 c4_i32_351
  let c3_i32_349 : BitVec 32 := 3#32
  let v577 : BitVec 1 := Scalar.cmpi .eq v2 c3_i32_349
  let c2_i32_347 : BitVec 32 := 2#32
  let v575 : BitVec 1 := Scalar.cmpi .eq v2 c2_i32_347
  let c1_i32_344 : BitVec 32 := 1#32
  let v573 : BitVec 1 := Scalar.cmpi .eq v2 c1_i32_344
  let v574 : BitVec 32 := Scalar.select v573 c2_i32_345 c1_i32_346
  let v576 : BitVec 32 := Scalar.select v575 c3_i32_348 v574
  let v578 : BitVec 32 := Scalar.select v577 c7_i32_350 v576
  let v580 : BitVec 32 := Scalar.select v579 c0_i32_352 v578
  let v582 : BitVec 32 := Scalar.select v581 c4_i32_354 v580
  let v584 : BitVec 32 := Scalar.select v583 c5_i32_356 v582
  let v586 : BitVec 32 := Scalar.select v585 c6_i32_358 v584
  let c8_i32_506 : BitVec 32 := 8#32
  let v826 : BitVec 32 := Scalar.muli v586 c8_i32_506
  let c4_i32_507 : BitVec 32 := 4#32
  let v827 : BitVec 32 := Scalar.addi v826 c4_i32_507
  let v927 : BitVec 32 := Scalar.addi v827 c0_i32_559
  let v928 : Index := Scalar.indexCast v927
  let c0_561 : Index := 0#32
  let c0_562 : Index := 0#32
  ![1, v928.toNat, 0, 0]
def k0_off8_at (r : Fin 28) : BitVec 32 × BitVec 32 × BitVec 32 × BitVec 32 × BitVec 32 × BitVec 32 × BitVec 32 × BitVec 32 × BitVec 32 :=
  if r.val < 14 then
    if r.val < 7 then
      if r.val < 3 then
        if r.val < 1 then
          (6#32, 5#32, 4#32, 0#32, 7#32, 3#32, 2#32, 1#32, 0#32)
        else
          if r.val < 2 then
            (6#32, 5#32, 4#32, 0#32, 7#32, 3#32, 2#32, 1#32, 1#32)
          else
            (6#32, 5#32, 4#32, 0#32, 7#32, 3#32, 2#32, 1#32, 2#32)
      else
        if r.val < 5 then
          if r.val < 4 then
            (6#32, 5#32, 4#32, 0#32, 7#32, 3#32, 2#32, 1#32, 3#32)
          else
            (5#32, 4#32, 0#32, 1#32, 6#32, 7#32, 3#32, 2#32, 0#32)
        else
          if r.val < 6 then
            (5#32, 4#32, 0#32, 1#32, 6#32, 7#32, 3#32, 2#32, 1#32)
          else
            (5#32, 4#32, 0#32, 1#32, 6#32, 7#32, 3#32, 2#32, 2#32)
    else
      if r.val < 10 then
        if r.val < 8 then
          (5#32, 4#32, 0#32, 1#32, 6#32, 7#32, 3#32, 2#32, 3#32)
        else
          if r.val < 9 then
            (4#32, 0#32, 1#32, 2#32, 5#32, 6#32, 7#32, 3#32, 0#32)
          else
            (4#32, 0#32, 1#32, 2#32, 5#32, 6#32, 7#32, 3#32, 1#32)
      else
        if r.val < 12 then
          if r.val < 11 then
            (4#32, 0#32, 1#32, 2#32, 5#32, 6#32, 7#32, 3#32, 2#32)
          else
            (4#32, 0#32, 1#32, 2#32, 5#32, 6#32, 7#32, 3#32, 3#32)
        else
          if r.val < 13 then
            (0#32, 1#32, 2#32, 3#32, 4#32, 5#32, 6#32, 7#32, 0#32)
          else
            (0#32, 1#32, 2#32, 3#32, 4#32, 5#32, 6#32, 7#32, 1#32)
  else
    if r.val < 21 then
      if r.val < 17 then
        if r.val < 15 then
          (0#32, 1#32, 2#32, 3#32, 4#32, 5#32, 6#32, 7#32, 2#32)
        else
          if r.val < 16 then
            (0#32, 1#32, 2#32, 3#32, 4#32, 5#32, 6#32, 7#32, 3#32)
          else
            (1#32, 2#32, 3#32, 7#32, 0#32, 4#32, 5#32, 6#32, 0#32)
      else
        if r.val < 19 then
          if r.val < 18 then
            (1#32, 2#32, 3#32, 7#32, 0#32, 4#32, 5#32, 6#32, 1#32)
          else
            (1#32, 2#32, 3#32, 7#32, 0#32, 4#32, 5#32, 6#32, 2#32)
        else
          if r.val < 20 then
            (1#32, 2#32, 3#32, 7#32, 0#32, 4#32, 5#32, 6#32, 3#32)
          else
            (2#32, 3#32, 7#32, 6#32, 1#32, 0#32, 4#32, 5#32, 0#32)
    else
      if r.val < 24 then
        if r.val < 22 then
          (2#32, 3#32, 7#32, 6#32, 1#32, 0#32, 4#32, 5#32, 1#32)
        else
          if r.val < 23 then
            (2#32, 3#32, 7#32, 6#32, 1#32, 0#32, 4#32, 5#32, 2#32)
          else
            (2#32, 3#32, 7#32, 6#32, 1#32, 0#32, 4#32, 5#32, 3#32)
      else
        if r.val < 26 then
          if r.val < 25 then
            (3#32, 7#32, 6#32, 5#32, 2#32, 1#32, 0#32, 4#32, 0#32)
          else
            (3#32, 7#32, 6#32, 5#32, 2#32, 1#32, 0#32, 4#32, 1#32)
        else
          if r.val < 27 then
            (3#32, 7#32, 6#32, 5#32, 2#32, 1#32, 0#32, 4#32, 2#32)
          else
            (3#32, 7#32, 6#32, 5#32, 2#32, 1#32, 0#32, 4#32, 3#32)
def k0_dev11 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_683 : BitVec 32 := 1#32
  let v1082 : BitVec 32 := Scalar.muli v30 c1_i32_683
  let v1083 : BitVec 32 := Scalar.addi c0_i32_684 v1082
  v1083.toNat
def k0_dev12 (d0 : Dev nD) : Nat :=
  let c0_i32_694 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_693 : BitVec 32 := 1#32
  let v1092 : BitVec 32 := Scalar.muli v30 c1_i32_693
  let v1093 : BitVec 32 := Scalar.addi c0_i32_694 v1092
  v1093.toNat
def k0_dev13 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_703 : BitVec 32 := 1#32
  let v1102 : BitVec 32 := Scalar.muli v16 c1_i32_703
  let v1103 : BitVec 32 := Scalar.addi c0_i32_704 v1102
  v1103.toNat
def k0_dev14 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_713 : BitVec 32 := 1#32
  let v1112 : BitVec 32 := Scalar.muli v16 c1_i32_713
  let v1113 : BitVec 32 := Scalar.addi c0_i32_714 v1112
  v1113.toNat
def k0_dev15 (d0 : Dev nD) : Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1003 : BitVec 32 := 1#32
  let v1577 : BitVec 32 := Scalar.muli v30 c1_i32_1003
  let v1578 : BitVec 32 := Scalar.addi c0_i32_1004 v1577
  v1578.toNat
def k0_dev16 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1013 : BitVec 32 := 1#32
  let v1587 : BitVec 32 := Scalar.muli v30 c1_i32_1013
  let v1588 : BitVec 32 := Scalar.addi c0_i32_1014 v1587
  v1588.toNat
def k0_dev17 (d0 : Dev nD) : Nat :=
  let c0_i32_1024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1023 : BitVec 32 := 1#32
  let v1597 : BitVec 32 := Scalar.muli v16 c1_i32_1023
  let v1598 : BitVec 32 := Scalar.addi c0_i32_1024 v1597
  v1598.toNat
def k0_dev18 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1033 : BitVec 32 := 1#32
  let v1607 : BitVec 32 := Scalar.muli v16 c1_i32_1033
  let v1608 : BitVec 32 := Scalar.addi c0_i32_1034 v1607
  v1608.toNat
def k0_dev19 (d0 : Dev nD) : Nat :=
  let c0_i32_1323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1322 : BitVec 32 := 1#32
  let v2072 : BitVec 32 := Scalar.muli v30 c1_i32_1322
  let v2073 : BitVec 32 := Scalar.addi c0_i32_1323 v2072
  v2073.toNat
def k0_dev20 (d0 : Dev nD) : Nat :=
  let c0_i32_1333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1332 : BitVec 32 := 1#32
  let v2082 : BitVec 32 := Scalar.muli v30 c1_i32_1332
  let v2083 : BitVec 32 := Scalar.addi c0_i32_1333 v2082
  v2083.toNat
def k0_dev21 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1342 : BitVec 32 := 1#32
  let v2092 : BitVec 32 := Scalar.muli v16 c1_i32_1342
  let v2093 : BitVec 32 := Scalar.addi c0_i32_1343 v2092
  v2093.toNat
def k0_dev22 (d0 : Dev nD) : Nat :=
  let c0_i32_1353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1352 : BitVec 32 := 1#32
  let v2102 : BitVec 32 := Scalar.muli v16 c1_i32_1352
  let v2103 : BitVec 32 := Scalar.addi c0_i32_1353 v2102
  v2103.toNat
def k0_dev23 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1641 : BitVec 32 := 1#32
  let v2567 : BitVec 32 := Scalar.muli v30 c1_i32_1641
  let v2568 : BitVec 32 := Scalar.addi c0_i32_1642 v2567
  v2568.toNat
def k0_dev24 (d0 : Dev nD) : Nat :=
  let c0_i32_1652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1651 : BitVec 32 := 1#32
  let v2577 : BitVec 32 := Scalar.muli v30 c1_i32_1651
  let v2578 : BitVec 32 := Scalar.addi c0_i32_1652 v2577
  v2578.toNat
def k0_dev25 (d0 : Dev nD) : Nat :=
  let c0_i32_1662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1661 : BitVec 32 := 1#32
  let v2587 : BitVec 32 := Scalar.muli v16 c1_i32_1661
  let v2588 : BitVec 32 := Scalar.addi c0_i32_1662 v2587
  v2588.toNat
def k0_dev26 (d0 : Dev nD) : Nat :=
  let c0_i32_1672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1671 : BitVec 32 := 1#32
  let v2597 : BitVec 32 := Scalar.muli v16 c1_i32_1671
  let v2598 : BitVec 32 := Scalar.addi c0_i32_1672 v2597
  v2598.toNat
def k0_dev27 (d0 : Dev nD) : Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1960 : BitVec 32 := 1#32
  let v3062 : BitVec 32 := Scalar.muli v30 c1_i32_1960
  let v3063 : BitVec 32 := Scalar.addi c0_i32_1961 v3062
  v3063.toNat
def k0_dev28 (d0 : Dev nD) : Nat :=
  let c0_i32_1971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c6_i32_22 : BitVec 32 := 6#32
  let c6_i32_19 : BitVec 32 := 6#32
  let v27 : BitVec 1 := Scalar.cmpi .eq v2 c6_i32_19
  let c5_i32_20 : BitVec 32 := 5#32
  let c5_i32_17 : BitVec 32 := 5#32
  let v25 : BitVec 1 := Scalar.cmpi .eq v2 c5_i32_17
  let c4_i32_18 : BitVec 32 := 4#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c2_i32_9 : BitVec 32 := 2#32
  let c1_i32_10 : BitVec 32 := 1#32
  let v18 : BitVec 32 := Scalar.select v17 c2_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c4_i32_18 v24
  let v28 : BitVec 32 := Scalar.select v27 c5_i32_20 v26
  let v30 : BitVec 32 := Scalar.select v29 c6_i32_22 v28
  let c1_i32_1970 : BitVec 32 := 1#32
  let v3072 : BitVec 32 := Scalar.muli v30 c1_i32_1970
  let v3073 : BitVec 32 := Scalar.addi c0_i32_1971 v3072
  v3073.toNat
def k0_dev29 (d0 : Dev nD) : Nat :=
  let c0_i32_1981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1980 : BitVec 32 := 1#32
  let v3082 : BitVec 32 := Scalar.muli v16 c1_i32_1980
  let v3083 : BitVec 32 := Scalar.addi c0_i32_1981 v3082
  v3083.toNat
def k0_dev30 (d0 : Dev nD) : Nat :=
  let c0_i32_1991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_5 : BitVec 32 := 6#32
  let v13 : BitVec 1 := Scalar.cmpi .eq v2 c6_i32_5
  let c7_i32 : BitVec 32 := 7#32
  let c5_i32_4 : BitVec 32 := 5#32
  let v11 : BitVec 1 := Scalar.cmpi .eq v2 c5_i32_4
  let c6_i32 : BitVec 32 := 6#32
  let c4_i32_3 : BitVec 32 := 4#32
  let v9 : BitVec 1 := Scalar.cmpi .eq v2 c4_i32_3
  let c5_i32 : BitVec 32 := 5#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c5_i32 v8
  let v12 : BitVec 32 := Scalar.select v11 c6_i32 v10
  let v14 : BitVec 32 := Scalar.select v13 c7_i32 v12
  let v16 : BitVec 32 := Scalar.select v15 c3_i32_7 v14
  let c1_i32_1990 : BitVec 32 := 1#32
  let v3092 : BitVec 32 := Scalar.muli v16 c1_i32_1990
  let v3093 : BitVec 32 := Scalar.addi c0_i32_1991 v3092
  v3093.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64x64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S768x4096, .f32⟩
  | .hbm, ⟨2, _⟩ => ⟨S16x512x64x64, .f32⟩
  | .hbm, ⟨3, _⟩ => ⟨S16x512x64x64, .f32⟩
  | .hbm, ⟨4, _⟩ => ⟨S4096x768, .f32⟩
  | .hbm, ⟨5, _⟩ => ⟨S16x512x4096, .f32⟩
  | .hbm, ⟨6, _⟩ => ⟨S16x512x64x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S16x64x512x512, .f32⟩
  | .hbm, ⟨51, _⟩ => ⟨S_, .f32⟩
  | .hbm, ⟨52, _⟩ => ⟨S16x64x512x512, .f32⟩
  | .hbm, ⟨53, _⟩ => ⟨S16x64x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S16x64x512x512, .i1⟩
  | .hbm, ⟨58, _⟩ => ⟨S16x64x512x512, .f32⟩
  | .hbm, ⟨59, _⟩ => ⟨S16x64x512x512, .f32⟩
  | .hbm, ⟨60, _⟩ => ⟨S_, .f32⟩
  | .hbm, ⟨61, _⟩ => ⟨S16x64x512, .f32⟩
  | .hbm, ⟨62, _⟩ => ⟨S16x64x512x1, .f32⟩
  | .hbm, ⟨63, _⟩ => ⟨S16x64x512x512, .f32⟩
  | .hbm, ⟨64, _⟩ => ⟨S16x64x512x512, .f32⟩
  | .hbm, ⟨65, _⟩ => ⟨S16x64x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S16x64x512, .f32⟩
  | .hbm, ⟨71, _⟩ => ⟨S16x64x512x1, .f32⟩
  | .hbm, ⟨72, _⟩ => ⟨S_, .f32⟩
  | .hbm, ⟨73, _⟩ => ⟨S_, .f32⟩
  | .hbm, ⟨74, _⟩ => ⟨S16x64x512x1, .i1⟩
  | .hbm, ⟨75, _⟩ => ⟨S16x64x512x1, .f32⟩
  | .hbm, ⟨76, _⟩ => ⟨S16x64x512x1, .f32⟩
  | .hbm, ⟨77, _⟩ => ⟨S16x64x512x512, .f32⟩
  | .hbm, ⟨78, _⟩ => ⟨S16x64x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S16x64x512x512, .i1⟩
  | .hbm, ⟨83, _⟩ => ⟨S16x64x512x512, .f32⟩
  | .hbm, ⟨84, _⟩ => ⟨S16x64x512x512, .f32⟩
  | .hbm, ⟨85, _⟩ => ⟨S16x64x64x512, .f32⟩
  | .hbm, ⟨86, _⟩ => ⟨S16x512x64x64, .f32⟩
  | .hbm, ⟨87, _⟩ => ⟨S16x512x4096, .f32⟩
  | .hbm, ⟨88, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Same.lean ====
module

public import proofs.«01_k».proof.Proof.Steps
public import Idealize.ShloMosaic.Lib.Tactic

@[expose] public section

/-! # The printed body is the sequence of steps -/

noncomputable section

namespace Cert.Kernel.St

open Idealize.ShloMosaic Idealize.ShloMosaic.TcCoe Idealize.SL.Sem
open Cert.Kernel Cert.Kernel.Gen

variable {F : FTy → Type} [FloatOps F]

set_option maxRecDepth 100000 in
theorem body_eq :
    (cc0__body mX (Memref.isWhole_whole _) mQA (Memref.isWhole_whole _) mQB (Memref.isWhole_whole _) mOA (Memref.isWhole_whole _)
      mOB (Memref.isWhole_whole _) mK (Memref.isWhole_whole _) mV (Memref.isWhole_whole _) mOut (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13 : P F) = steps := by
  sl_kernel_rfl

end Cert.Kernel.St

end
-- ==== Proof.Ideal.Steps.lean ====
module

public import proofs.«01_k».proof.Proof.Gen.KernelIdeal.Skeleton
public import proofs.«01_k».proof.Proof.Gen.KernelIdeal.Points

@[expose] public section

/-! # The kernel's body as repeated steps

The printed body is one straight line of some seven thousand statements. It repeats few steps: per hop of the two rings
four remote copies, two groups of two batches of four heads each, and four waits. This module names those steps with the
hop, the group, the batch and the head as arguments, each followed by what comes after it, and shows that the printed
body is their sequence. -/

noncomputable section

namespace Cert.KernelIdeal.St

open Idealize.ShloMosaic Idealize.ShloMosaic.TcCoe Idealize.SL.Sem
open Cert.KernelIdeal Cert.KernelIdeal.Gen

variable {F : FTy → Type} [FloatOps F]

/-- A program of the TensorCore. -/
abbrev P (F : FTy → Type) : Type 1 := Prog (TpuEff nD τ sig (Elt F) Λ₀ .tc) PUnit.{1}

/-! ## Buffers -/

abbrev mX : Memref sig .tc .vmem S2x512x768 .bf16 := Memref.whole cc0_stg0_0
abbrev mQA : Memref sig .tc .vmem S768x256 .bf16 := Memref.whole cc0_stg1_0
abbrev mQB : Memref sig .tc .vmem S768x256 .bf16 := Memref.whole cc0_stg2_0
abbrev mOA : Memref sig .tc .vmem S256x768 .bf16 := Memref.whole cc0_stg3_0
abbrev mOB : Memref sig .tc .vmem S256x768 .bf16 := Memref.whole cc0_stg4_0
abbrev mK : Memref sig .tc .vmem S2x64x64x512 .bf16 := Memref.whole cc0_stg5_0
abbrev mV : Memref sig .tc .vmem S2x64x64x512 .bf16 := Memref.whole cc0_stg6_0
abbrev mOut : Memref sig .tc .vmem S2x512x768 .f32 := Memref.whole cc0_stg7_0
/-- Per ring (0: towards the right neighbour, 1: towards the left one) the slots of the projection blocks. -/
abbrev mQ (g : Fin 2) : Memref sig .tc .vmem S8x768x256 .bf16 :=
  match g with | 0 => Memref.whole cc0_scratch0 | 1 => Memref.whole cc0_scratch2
/-- Per ring the slots of the output blocks. -/
abbrev mO (g : Fin 2) : Memref sig .tc .vmem S8x256x768 .bf16 :=
  match g with | 0 => Memref.whole cc0_scratch1 | 1 => Memref.whole cc0_scratch3
/-- Per ring the table of attention results. -/
abbrev mC (g : Fin 2) : Memref sig .tc .vmem S1024x2048 .bf16 :=
  match g with | 0 => Memref.whole cc0_scratch4 | 1 => Memref.whole cc0_scratch5

theorem wholeQ (g : Fin 2) : (mQ g).IsWhole := match g with | 0 => Memref.isWhole_whole _ | 1 => Memref.isWhole_whole _
theorem wholeO (g : Fin 2) : (mO g).IsWhole := match g with | 0 => Memref.isWhole_whole _ | 1 => Memref.isWhole_whole _
theorem wholeC (g : Fin 2) : (mC g).IsWhole := match g with | 0 => Memref.isWhole_whole _ | 1 => Memref.isWhole_whole _

/-- The own block of a ring. -/
abbrev mQ0 (g : Fin 2) : Memref sig .tc .vmem S768x256 .bf16 := match g with | 0 => mQA | 1 => mQB
theorem wholeQ0 (g : Fin 2) : (mQ0 g).IsWhole := match g with | 0 => Memref.isWhole_whole _ | 1 => Memref.isWhole_whole _

theorem inbQ (s : Fin 8) : ∀ a, (![s.val, 0, 0] : Fin 3 → Nat) a + S1x768x256.size a ≤ S8x768x256.size a := by
  revert s; decide
theorem inbO (s : Fin 8) : ∀ a, (![s.val, 0, 0] : Fin 3 → Nat) a + S1x256x768.size a ≤ S8x256x768.size a := by
  revert s; decide
theorem inbS (s : Fin 8) : ∀ a, (![s.val] : Fin 1 → Nat) a + S1.size a ≤ S8.size a := by
  revert s; decide
theorem wordsQ (s : Fin 8) : (Rect.unit (s := S8x768x256) ![s.val, 0, 0] S1x768x256.size (inbQ s)).WholeWords (EltTy.packing .bf16) := by
  revert s; decide
theorem wordsO (s : Fin 8) : (Rect.unit (s := S8x256x768) ![s.val, 0, 0] S1x256x768.size (inbO s)).WholeWords (EltTy.packing .bf16) := by
  revert s; decide

/-- Slot `s` of a ring's projection blocks. -/
abbrev slQ (g : Fin 2) (s : Fin 8) : Memref sig .tc .vmem S768x256 .bf16 :=
  ((mQ g).slice (Rect.unit (s := S8x768x256) ![s.val, 0, 0] S1x768x256.size (inbQ s)) (fun _ => rfl)).squeeze S768x256
    squeezes_S1x768x256_S768x256
/-- Slot `s` of a ring's output blocks. -/
abbrev slO (g : Fin 2) (s : Fin 8) : Memref sig .tc .vmem S256x768 .bf16 :=
  ((mO g).slice (Rect.unit (s := S8x256x768) ![s.val, 0, 0] S1x256x768.size (inbO s)) (fun _ => rfl)).squeeze S256x768
    squeezes_S1x256x768_S256x768
theorem exactQ (g : Fin 2) (s : Fin 8) : (slQ g s).view.WordExact := ((wholeQ g).wordExact_slice rfl _ (wordsQ s)).reshape _ _
theorem exactO (g : Fin 2) (s : Fin 8) : (slO g s).view.WordExact := ((wholeO g).wordExact_slice rfl _ (wordsO s)).reshape _ _

/-- The eight arrays of DMA semaphores: per ring the projection blocks' send and receive, the output blocks' likewise. -/
abbrev sems (q : Fin 8) : DmaSems sig S8 :=
  match q with
  | 0 => cc0_scratch6 | 1 => cc0_scratch7 | 2 => cc0_scratch8 | 3 => cc0_scratch9
  | 4 => cc0_scratch10 | 5 => cc0_scratch11 | 6 => cc0_scratch12 | 7 => cc0_scratch13
/-- Semaphore `s` of array `q`. -/
abbrev sm (q : Fin 8) (s : Fin 8) : DmaSem sig :=
  (((sems q).slice (Rect.unit (s := S8) ![s.val] S1.size (inbS s))).squeeze S_ squeezes_S1_S_).sem
/-- The arrays of ring `g`. -/
abbrev qSend (g : Fin 2) : Fin 8 := match g with | 0 => 0 | 1 => 4
abbrev qRecv (g : Fin 2) : Fin 8 := match g with | 0 => 1 | 1 => 5
abbrev oSend (g : Fin 2) : Fin 8 := match g with | 0 => 2 | 1 => 6
abbrev oRecv (g : Fin 2) : Fin 8 := match g with | 0 => 3 | 1 => 7

/-- The barrier's semaphore. -/
abbrev barS : Sem sig := (SemArray.scalar (sig.barrier 0 rfl) : Sems sig S_).sem

/-! ## Pure values -/

/-- Which keys a query may look at: those of no later block of 64. -/
def maskV : IVec S512x512 1 :=
  k0_pay4 k0_pay1 (iota .tc S512x512 32 [1] iota_S512x512_d1_w32) 64#32 k0_pay2 k0_pay3

/-- A group's queries: the rows of `x` times the group's projection block. -/
def qOf (x : FVec F S1024x768 .bf16) (w : FVec F S768x256 .bf16) : FVec F S1024x256 .bf16 :=
  truncf .bf16 (matmul dot_S1024x768_S768x256_S1024x256_1_0_0_1_n_n none x w (constant S1024x256 .f32 0x00000000#32)) bitsLt_bf16_f32

theorem slicesQ (b : Fin 2) (r : Fin 4) : S1024x256.Slices ![512 * b.val, 64 * r.val] S512x64 := by
  revert b r; decide

/-- Batch `b`'s queries of the group's head `r`. -/
def qAt (q : FVec F S1024x256 .bf16) (b : Fin 2) (r : Fin 4) : FVec F S512x64 .bf16 :=
  extractStridedSlice S512x64 ![512 * b.val, 64 * r.val] q (slicesQ b r)

/-- One head's attention of one batch. -/
def headV (q : FVec F S512x64 .bf16) (k v : Vec F S1x1x64x512 .bf16) : FVec F S512x64 .bf16 :=
  have p : FVec F S512x512 .bf16 := select maskV
    (exp (truncf .bf16 (matmul dot_S512x64_S64x512_S512x512_1_0_0_1_n_n none q
      (shapeCast S64x512 (shapeCast S1x64x512 k shapeCasts_S1x1x64x512_S1x64x512) shapeCasts_S1x64x512_S64x512)
      (constant S512x512 .f32 0x00000000#32)) bitsLt_bf16_f32))
    (broadcast S512x512 (Scalar.ofBits .bf16 0x0000#16))
  truncf .bf16 (divf
    (matmul dot_S512x512_S64x512_S512x64_1_1_0_0_n_n none p
      (shapeCast S64x512 (shapeCast S1x64x512 v shapeCasts_S1x1x64x512_S1x64x512) shapeCasts_S1x64x512_S64x512)
      (constant S512x64 .f32 0x00000000#32))
    (broadcastTo S512x64 (shapeCast S512x1
      (multiReduction .add [1] S512 (extf .f32 p bitsLt_bf16_f32) 0x00000000#32 reduces_S512x512_S512 (.inl rfl) rfl)
      shapeCasts_S512_S512x1) broadcasts_S512x1_S512x64)) bitsLt_bf16_f32

/-- One group's attention of one batch: four heads side by side. -/
def rowV (q : FVec F S1024x256 .bf16) (b : Fin 2) (k v : Fin 4 → Vec F S1x1x64x512 .bf16) : FVec F S512x256 .bf16 :=
  shapeCast S512x256 (concatenate S512x256 1
    [⟨S512x64, headV (qAt q b 0) (k 0) (v 0)⟩, ⟨S512x64, headV (qAt q b 1) (k 1) (v 1)⟩,
     ⟨S512x64, headV (qAt q b 2) (k 2) (v 2)⟩, ⟨S512x64, headV (qAt q b 3) (k 3) (v 3)⟩]
    concatenates_S512x64_S512x64_S512x64_S512x64_S512x256_d1) shapeCasts_S512x256_S512x256

/-- What the kernel leaves of its result: the two rings' tables times the two rings' output blocks. -/
def outV (ca cb : Vec F S1024x2048 .bf16) (wa wb : Vec F S8x256x768 .bf16) : FVec F S2x512x768 .f32 :=
  shapeCast S2x512x768 (addf
    (matmul dot_S1024x2048_S2048x768_S1024x768_1_0_0_1_n_n none ca
      (shapeCast S2048x768 wa shapeCasts_S8x256x768_S2048x768) (constant S1024x768 .f32 0x00000000#32))
    (matmul dot_S1024x2048_S2048x768_S1024x768_1_0_0_1_n_n none cb
      (shapeCast S2048x768 wb shapeCasts_S8x256x768_S2048x768) (constant S1024x768 .f32 0x00000000#32)))
    shapeCasts_S1024x768_S2x512x768

/-! ## Steps -/

/-- A device of the mesh by its number. -/
abbrev devT (n : Nat) (h : n < nD) : Dev nD := ⟨n, h⟩

/-- Start a remote copy of a projection block. -/
def sendQ (d : Dev nD) (g : Fin 2) (j : Fin 7) (src : Memref sig .tc .vmem S768x256 .bf16) (hs : src.view.WordExact) (k : P F) : P F :=
  .op (.enqueueDma src (.remote (Dev.tc d) (slQ g j.succ) (.dma (sm (qSend g) j.castSucc))) (.dma (sm (qRecv g) j.succ))
    hs (exactQ g j.succ) ⟨⟨rfl, Or.inl rfl⟩, trivial⟩) fun _ => k

/-- Start a remote copy of an output block. -/
def sendO (d : Dev nD) (g : Fin 2) (j : Fin 7) (k : P F) : P F :=
  .op (.enqueueDma (slO g j.castSucc) (.remote (Dev.tc d) (slO g j.succ) (.dma (sm (oSend g) j.castSucc))) (.dma (sm (oRecv g) j.succ))
    (exactO g j.castSucc) (exactO g j.succ) ⟨⟨rfl, Or.inl rfl⟩, trivial⟩) fun _ => k

/-- Wait for the projection block of a ring's hop to arrive. -/
def waitQ (g : Fin 2) (j : Fin 7) (src : Memref sig .tc .vmem S768x256 .bf16) (hs : src.view.WordExact) (k : P F) : P F :=
  .op (.waitDma2 (sm (qRecv g) j.succ) src (slQ g j.succ) hs (exactQ g j.succ)) fun _ => k
/-- Wait for the output block of a ring's hop to arrive. -/
def waitO (g : Fin 2) (j : Fin 7) (k : P F) : P F :=
  .op (.waitDma2 (sm (oRecv g) j.succ) (slO g j.castSucc) (slO g j.succ) (exactO g j.castSucc) (exactO g j.succ)) fun _ => k
/-- Wait for a projection block's copy to have left. -/
def doneQ (g : Fin 2) (j : Fin 7) (src : Memref sig .tc .vmem S768x256 .bf16) (hs : src.view.WordExact) (k : P F) : P F :=
  .op (.waitDma2 (sm (qSend g) j.castSucc) (slQ g j.succ) src (exactQ g j.succ) hs) fun _ => k
/-- Wait for an output block's copy to have left. -/
def doneO (g : Fin 2) (j : Fin 7) (k : P F) : P F :=
  .op (.waitDma2 (sm (oSend g) j.castSucc) (slO g j.succ) (slO g j.castSucc) (exactO g j.succ) (exactO g j.castSucc)) fun _ => k

/-- Read a key or value block of one head. -/
abbrev loadKV (m : Memref sig .tc .vmem S2x64x64x512 .bf16) (off : Fin 4 → Nat) (h : ∀ a, off a + S1x1x64x512.size a ≤ S2x64x64x512.size a)
    (k : Vec F S1x1x64x512 .bf16 → P F) : P F :=
  .op (.load m (Rect.unit (s := S2x64x64x512) off S1x1x64x512.size h).toLoadRect (View.loadsAt_vmem h_S1x1x64x512)) k

theorem inbC (b : Fin 2) (s : Fin 8) : ∀ a, (![512 * b.val, 256 * s.val] : Fin 2 → Nat) a + S512x256.size a ≤ S1024x2048.size a := by
  revert b s; decide
theorem packedC (b : Fin 2) (s : Fin 8) : (Rect.unit (s := S1024x2048) ![512 * b.val, 256 * s.val] S512x256.size (inbC b s)).PackedRows (EltTy.packing .bf16) := by
  revert b s; decide
/-- The place of batch `b`'s results at a ring's slot `s`. -/
abbrev rC (b : Fin 2) (s : Fin 8) : Rect S1024x2048 := Rect.unit (s := S1024x2048) ![512 * b.val, 256 * s.val] S512x256.size (inbC b s)

/-- One group of one batch: four heads' keys and values read, the row of results written. -/
def batch (g b : Fin 2) (s : Fin 8) (off : Fin 4 → Fin 4 → Nat) (h : ∀ r a, off r a + S1x1x64x512.size a ≤ S2x64x64x512.size a)
    (q : FVec F S1024x256 .bf16) (k : P F) : P F :=
  loadKV mK (off 0) (h 0) fun k0 => loadKV mV (off 0) (h 0) fun v0 =>
  loadKV mK (off 1) (h 1) fun k1 => loadKV mV (off 1) (h 1) fun v1 =>
  loadKV mK (off 2) (h 2) fun k2 => loadKV mV (off 2) (h 2) fun v2 =>
  loadKV mK (off 3) (h 3) fun k3 => loadKV mV (off 3) (h 3) fun v3 =>
  .op (.load (mC g) (rC b s).toLoadRect (View.loadsAt_vmem h_S512x256)) fun _ =>
  .op (.store (mC g) (rC b s) (rowV q b ![k0, k1, k2, k3] ![v0, v1, v2, v3]) Finset.univ
    (View.stores_vmem h_S512x256 ((wholeC g).storeExact_slice rfl _ (packedC b s)) (fun _ => rfl)) (.inl rfl)) fun _ => k

/-- Where device `d` reads the keys of head `r` of group `g` and batch `b` at slot `s`. -/
abbrev offT (g b : Fin 2) (s : Fin 8) (d : Dev nD) (r : Fin 4) : Fin 4 → Nat :=
  match s, g, b with
  | ⟨0, _⟩, 0, 0 => k0_off1 d (BitVec.ofNat 32 r.val)
  | ⟨0, _⟩, 0, 1 => k0_off2 d (BitVec.ofNat 32 r.val)
  | ⟨0, _⟩, 1, 0 => k0_off3 d (BitVec.ofNat 32 r.val)
  | ⟨0, _⟩, 1, 1 => k0_off4 d (BitVec.ofNat 32 r.val)
  | ⟨1, _⟩, 0, 0 => k0_off5 d 3#32 7#32 6#32 5#32 2#32 1#32 0#32 4#32 (BitVec.ofNat 32 r.val)
  | ⟨1, _⟩, 0, 1 => k0_off6 d 3#32 7#32 6#32 5#32 2#32 1#32 0#32 4#32 (BitVec.ofNat 32 r.val)
  | ⟨1, _⟩, 1, 0 => k0_off7 d 6#32 5#32 4#32 0#32 7#32 3#32 2#32 1#32 (BitVec.ofNat 32 r.val)
  | ⟨1, _⟩, 1, 1 => k0_off8 d 6#32 5#32 4#32 0#32 7#32 3#32 2#32 1#32 (BitVec.ofNat 32 r.val)
  | ⟨2, _⟩, 0, 0 => k0_off5 d 2#32 3#32 7#32 6#32 1#32 0#32 4#32 5#32 (BitVec.ofNat 32 r.val)
  | ⟨2, _⟩, 0, 1 => k0_off6 d 2#32 3#32 7#32 6#32 1#32 0#32 4#32 5#32 (BitVec.ofNat 32 r.val)
  | ⟨2, _⟩, 1, 0 => k0_off7 d 5#32 4#32 0#32 1#32 6#32 7#32 3#32 2#32 (BitVec.ofNat 32 r.val)
  | ⟨2, _⟩, 1, 1 => k0_off8 d 5#32 4#32 0#32 1#32 6#32 7#32 3#32 2#32 (BitVec.ofNat 32 r.val)
  | ⟨3, _⟩, 0, 0 => k0_off5 d 1#32 2#32 3#32 7#32 0#32 4#32 5#32 6#32 (BitVec.ofNat 32 r.val)
  | ⟨3, _⟩, 0, 1 => k0_off6 d 1#32 2#32 3#32 7#32 0#32 4#32 5#32 6#32 (BitVec.ofNat 32 r.val)
  | ⟨3, _⟩, 1, 0 => k0_off7 d 4#32 0#32 1#32 2#32 5#32 6#32 7#32 3#32 (BitVec.ofNat 32 r.val)
  | ⟨3, _⟩, 1, 1 => k0_off8 d 4#32 0#32 1#32 2#32 5#32 6#32 7#32 3#32 (BitVec.ofNat 32 r.val)
  | ⟨4, _⟩, 0, 0 => k0_off5 d 0#32 1#32 2#32 3#32 4#32 5#32 6#32 7#32 (BitVec.ofNat 32 r.val)
  | ⟨4, _⟩, 0, 1 => k0_off6 d 0#32 1#32 2#32 3#32 4#32 5#32 6#32 7#32 (BitVec.ofNat 32 r.val)
  | ⟨4, _⟩, 1, 0 => k0_off7 d 0#32 1#32 2#32 3#32 4#32 5#32 6#32 7#32 (BitVec.ofNat 32 r.val)
  | ⟨4, _⟩, 1, 1 => k0_off8 d 0#32 1#32 2#32 3#32 4#32 5#32 6#32 7#32 (BitVec.ofNat 32 r.val)
  | ⟨5, _⟩, 0, 0 => k0_off5 d 4#32 0#32 1#32 2#32 5#32 6#32 7#32 3#32 (BitVec.ofNat 32 r.val)
  | ⟨5, _⟩, 0, 1 => k0_off6 d 4#32 0#32 1#32 2#32 5#32 6#32 7#32 3#32 (BitVec.ofNat 32 r.val)
  | ⟨5, _⟩, 1, 0 => k0_off7 d 1#32 2#32 3#32 7#32 0#32 4#32 5#32 6#32 (BitVec.ofNat 32 r.val)
  | ⟨5, _⟩, 1, 1 => k0_off8 d 1#32 2#32 3#32 7#32 0#32 4#32 5#32 6#32 (BitVec.ofNat 32 r.val)
  | ⟨6, _⟩, 0, 0 => k0_off5 d 5#32 4#32 0#32 1#32 6#32 7#32 3#32 2#32 (BitVec.ofNat 32 r.val)
  | ⟨6, _⟩, 0, 1 => k0_off6 d 5#32 4#32 0#32 1#32 6#32 7#32 3#32 2#32 (BitVec.ofNat 32 r.val)
  | ⟨6, _⟩, 1, 0 => k0_off7 d 2#32 3#32 7#32 6#32 1#32 0#32 4#32 5#32 (BitVec.ofNat 32 r.val)
  | ⟨6, _⟩, 1, 1 => k0_off8 d 2#32 3#32 7#32 6#32 1#32 0#32 4#32 5#32 (BitVec.ofNat 32 r.val)
  | ⟨7, _⟩, 0, 0 => k0_off5 d 6#32 5#32 4#32 0#32 7#32 3#32 2#32 1#32 (BitVec.ofNat 32 r.val)
  | ⟨7, _⟩, 0, 1 => k0_off6 d 6#32 5#32 4#32 0#32 7#32 3#32 2#32 1#32 (BitVec.ofNat 32 r.val)
  | ⟨7, _⟩, 1, 0 => k0_off7 d 3#32 7#32 6#32 5#32 2#32 1#32 0#32 4#32 (BitVec.ofNat 32 r.val)
  | ⟨7, _⟩, 1, 1 => k0_off8 d 3#32 7#32 6#32 5#32 2#32 1#32 0#32 4#32 (BitVec.ofNat 32 r.val)
  | ⟨n + 8, h⟩, _, _ => absurd h (by omega)

/-- The ring's next device, and the one before it. -/
def right : Fin 8 → Fin 8 := ![1, 2, 3, 7, 0, 4, 5, 6]
def left : Fin 8 → Fin 8 := ![4, 0, 1, 2, 5, 6, 7, 3]
/-- Whose block a device holds in a ring's slot: on the first ring the device that many steps before it, on the second the
    one that many steps after it. -/
def own (g : Fin 2) (s : ℕ) (d : Fin 8) : Fin 8 := match g with | 0 => left^[s] d | 1 => right^[s] d

theorem offT_eq (g b : Fin 2) (s : Fin 8) (d : Dev nD) (r : Fin 4) :
    offT g b s d r = ![b.val, 8 * (own g s.val d).val + 4 * g.val + r.val, 0, 0] := by
  revert g b s d r; decide +kernel

theorem offT_inb (g b : Fin 2) (s : Fin 8) (d : Dev nD) (r : Fin 4) (a) :
    offT g b s d r a + S1x1x64x512.size a ≤ S2x64x64x512.size a := by
  rw [offT_eq]; revert g b s d r a; decide +kernel

/-- A ring's group: two batches. -/
def group (d : Dev nD) (g : Fin 2) (s : Fin 8) (q : FVec F S1024x256 .bf16) (k : P F) : P F :=
  batch g 0 s (offT g 0 s d) (offT_inb g 0 s d) q <| batch g 1 s (offT g 1 s d) (offT_inb g 1 s d) q k

/-- Read a whole projection block. -/
abbrev loadQ0 (g : Fin 2) (k : FVec F S768x256 .bf16 → P F) : P F :=
  .op (.load (mQ0 g) (Rect.unit (s := S768x256) ![0, 0] S768x256.size inb_S768x256_S768x256_0_0).toLoadRect (View.loadsAt_vmem h_S768x256))
    fun w => k (shapeCast S768x256 w shapeCasts_S768x256_S768x256)
/-- Read the projection block of a slot. -/
abbrev loadQs (g : Fin 2) (s : Fin 8) (k : FVec F S768x256 .bf16 → P F) : P F :=
  .op (.load (mQ g) (Rect.unit (s := S8x768x256) ![s.val, 0, 0] S1x768x256.size (inbQ s)).toLoadRect (View.loadsAt_vmem h_S1x768x256))
    fun w => k (shapeCast S768x256 w shapeCasts_S1x768x256_S768x256)

/-- Each device that a hop's copies go to, as the program computes it. -/
abbrev dstT (j : Fin 7) (i : Fin 4) (d : Dev nD) : Dev nD :=
  match j, i with
  | ⟨0, _⟩, 0 => ⟨k0_dev3 d, k0_dev3_lt d⟩ | ⟨0, _⟩, 1 => ⟨k0_dev4 d, k0_dev4_lt d⟩
  | ⟨0, _⟩, 2 => ⟨k0_dev5 d, k0_dev5_lt d⟩ | ⟨0, _⟩, 3 => ⟨k0_dev6 d, k0_dev6_lt d⟩
  | ⟨1, _⟩, 0 => ⟨k0_dev7 d, k0_dev7_lt d⟩ | ⟨1, _⟩, 1 => ⟨k0_dev8 d, k0_dev8_lt d⟩
  | ⟨1, _⟩, 2 => ⟨k0_dev9 d, k0_dev9_lt d⟩ | ⟨1, _⟩, 3 => ⟨k0_dev10 d, k0_dev10_lt d⟩
  | ⟨2, _⟩, 0 => ⟨k0_dev11 d, k0_dev11_lt d⟩ | ⟨2, _⟩, 1 => ⟨k0_dev12 d, k0_dev12_lt d⟩
  | ⟨2, _⟩, 2 => ⟨k0_dev13 d, k0_dev13_lt d⟩ | ⟨2, _⟩, 3 => ⟨k0_dev14 d, k0_dev14_lt d⟩
  | ⟨3, _⟩, 0 => ⟨k0_dev15 d, k0_dev15_lt d⟩ | ⟨3, _⟩, 1 => ⟨k0_dev16 d, k0_dev16_lt d⟩
  | ⟨3, _⟩, 2 => ⟨k0_dev17 d, k0_dev17_lt d⟩ | ⟨3, _⟩, 3 => ⟨k0_dev18 d, k0_dev18_lt d⟩
  | ⟨4, _⟩, 0 => ⟨k0_dev19 d, k0_dev19_lt d⟩ | ⟨4, _⟩, 1 => ⟨k0_dev20 d, k0_dev20_lt d⟩
  | ⟨4, _⟩, 2 => ⟨k0_dev21 d, k0_dev21_lt d⟩ | ⟨4, _⟩, 3 => ⟨k0_dev22 d, k0_dev22_lt d⟩
  | ⟨5, _⟩, 0 => ⟨k0_dev23 d, k0_dev23_lt d⟩ | ⟨5, _⟩, 1 => ⟨k0_dev24 d, k0_dev24_lt d⟩
  | ⟨5, _⟩, 2 => ⟨k0_dev25 d, k0_dev25_lt d⟩ | ⟨5, _⟩, 3 => ⟨k0_dev26 d, k0_dev26_lt d⟩
  | ⟨6, _⟩, 0 => ⟨k0_dev27 d, k0_dev27_lt d⟩ | ⟨6, _⟩, 1 => ⟨k0_dev28 d, k0_dev28_lt d⟩
  | ⟨6, _⟩, 2 => ⟨k0_dev29 d, k0_dev29_lt d⟩ | ⟨6, _⟩, 3 => ⟨k0_dev30 d, k0_dev30_lt d⟩
  | ⟨n + 7, h⟩, _ => absurd h (by omega)

/-- A ring's neighbour: the first ring goes right, the second left. -/
def nbr (g : Fin 2) (d : Dev nD) : Dev nD := match g with | 0 => right d | 1 => left d

theorem dstT_eq (j : Fin 7) (i : Fin 4) (d : Dev nD) : dstT j i d = nbr (⟨i.val / 2, by omega⟩ : Fin 2) d := by
  revert j i d; decide +kernel

/-- The four copies of a hop. -/
def sends (d : Dev nD) (j : Fin 7) (src : Fin 2 → Memref sig .tc .vmem S768x256 .bf16) (hs : ∀ g, (src g).view.WordExact) (k : P F) : P F :=
  sendQ (dstT j 0 d) 0 j (src 0) (hs 0) <| sendO (dstT j 1 d) 0 j <| sendQ (dstT j 2 d) 1 j (src 1) (hs 1) <| sendO (dstT j 3 d) 1 j k
/-- The four arrivals of a hop. -/
def waits (j : Fin 7) (src : Fin 2 → Memref sig .tc .vmem S768x256 .bf16) (hs : ∀ g, (src g).view.WordExact) (k : P F) : P F :=
  waitQ 0 j (src 0) (hs 0) <| waitO 0 j <| waitQ 1 j (src 1) (hs 1) <| waitO 1 j k
/-- The four departures of a hop. -/
def dones (j : Fin 7) (src : Fin 2 → Memref sig .tc .vmem S768x256 .bf16) (hs : ∀ g, (src g).view.WordExact) (k : P F) : P F :=
  doneQ 0 j (src 0) (hs 0) <| doneO 0 j <| doneQ 1 j (src 1) (hs 1) <| doneO 1 j k

theorem exactQ0 (g : Fin 2) : (mQ0 g).view.WordExact := (wholeQ0 g).wordExact

/-- The first hop: the own blocks. -/
def hop0 (d : Dev nD) (x : FVec F S1024x768 .bf16) (k : P F) : P F :=
  sends d ⟨0, by decide⟩ mQ0 exactQ0 <|
  loadQ0 0 fun wa => loadQ0 1 fun wb =>
  group d 0 ⟨0, by decide⟩ (qOf x wa) <| group d 1 ⟨0, by decide⟩ (qOf x wb) <|
  waits ⟨0, by decide⟩ mQ0 exactQ0 k

/-- A later hop but the last: the blocks that arrived in the hop before. -/
def hop (d : Dev nD) (x : FVec F S1024x768 .bf16) (j : Fin 7) (k : P F) : P F :=
  sends d j (fun g => slQ g j.castSucc) (fun g => exactQ g j.castSucc) <|
  loadQs 0 j.castSucc fun wa => loadQs 1 j.castSucc fun wb =>
  group d 0 j.castSucc (qOf x wa) <| group d 1 j.castSucc (qOf x wb) <|
  waits j (fun g => slQ g j.castSucc) (fun g => exactQ g j.castSucc) k

/-- The last hop: nothing is passed on. -/
def hopLast (d : Dev nD) (x : FVec F S1024x768 .bf16) (k : P F) : P F :=
  loadQs 0 ⟨7, by decide⟩ fun wa => loadQs 1 ⟨7, by decide⟩ fun wb =>
  group d 0 ⟨7, by decide⟩ (qOf x wa) <| group d 1 ⟨7, by decide⟩ (qOf x wb) k

/-- Keep the own output block in the ring's slot 0. -/
def keepO (g : Fin 2) (m : Memref sig .tc .vmem S256x768 .bf16) (k : P F) : P F :=
  .op (.load m (Rect.unit (s := S256x768) ![0, 0] S256x768.size inb_S256x768_S256x768_0_0).toLoadRect (View.loadsAt_vmem h_S256x768)) fun w =>
  .op (.load (mO g) (Rect.unit (s := S8x256x768) ![0, 0, 0] S1x256x768.size inb_S8x256x768_S1x256x768_0_0_0).toLoadRect (View.loadsAt_vmem h_S1x256x768)) fun _ =>
  .op (.store (mO g) (Rect.unit (s := S8x256x768) ![0, 0, 0] S1x256x768.size inb_S8x256x768_S1x256x768_0_0_0)
    (shapeCast S1x256x768 (shapeCast S256x768 w shapeCasts_S256x768_S256x768) shapeCasts_S256x768_S1x256x768) Finset.univ
    (View.stores_vmem h_S1x256x768 ((wholeO g).storeExact_slice rfl _ packedbf16_S8x256x768_S1x256x768_0_0_0) (fun _ => rfl)) (.inl rfl)) fun _ => k

/-- The result. -/
def finish (k : P F) : P F :=
  .op (.load (mO 0) (Rect.unit (s := S8x256x768) ![0, 0, 0] S8x256x768.size inb_S8x256x768_S8x256x768_0_0_0).toLoadRect (View.loadsAt_vmem h_S8x256x768)) fun wa =>
  .op (.load (mO 1) (Rect.unit (s := S8x256x768) ![0, 0, 0] S8x256x768.size inb_S8x256x768_S8x256x768_0_0_0).toLoadRect (View.loadsAt_vmem h_S8x256x768)) fun wb =>
  .op (.load (mC 0) (Rect.unit (s := S1024x2048) ![0, 0] S1024x2048.size inb_S1024x2048_S1024x2048_0_0).toLoadRect (View.loadsAt_vmem h_S1024x2048)) fun ca =>
  .op (.load (mC 1) (Rect.unit (s := S1024x2048) ![0, 0] S1024x2048.size inb_S1024x2048_S1024x2048_0_0).toLoadRect (View.loadsAt_vmem h_S1024x2048)) fun cb =>
  .op (.load mOut (Rect.unit (s := S2x512x768) ![0, 0, 0] S2x512x768.size inb_S2x512x768_S2x512x768_0_0_0).toLoadRect (View.loadsAt_vmem h_S2x512x768)) fun _ =>
  .op (.store mOut (Rect.unit (s := S2x512x768) ![0, 0, 0] S2x512x768.size inb_S2x512x768_S2x512x768_0_0_0) (outV ca cb wa wb) Finset.univ
    (View.stores_vmem_bits_univ h_S2x512x768 rfl) (.inl rfl)) fun _ => k

/-- What follows the handshake. -/
def work (d : Dev nD) (k : P F) : P F :=
  .op (.load mX (Rect.unit (s := S2x512x768) ![0, 0, 0] S2x512x768.size inb_S2x512x768_S2x512x768_0_0_0).toLoadRect (View.loadsAt_vmem h_S2x512x768)) fun x =>
  keepO 0 mOA <| keepO 1 mOB <|
  hop0 d (k0_pay5 x) <|
  hop d (k0_pay5 x) ⟨1, by decide⟩ <| hop d (k0_pay5 x) ⟨2, by decide⟩ <| hop d (k0_pay5 x) ⟨3, by decide⟩ <|
  hop d (k0_pay5 x) ⟨4, by decide⟩ <| hop d (k0_pay5 x) ⟨5, by decide⟩ <| hop d (k0_pay5 x) ⟨6, by decide⟩ <|
  hopLast d (k0_pay5 x) <|
  dones ⟨0, by decide⟩ mQ0 exactQ0 <|
  dones ⟨1, by decide⟩ (fun g => slQ g ⟨1, by decide⟩) (fun g => exactQ g ⟨1, by decide⟩) <|
  dones ⟨2, by decide⟩ (fun g => slQ g ⟨2, by decide⟩) (fun g => exactQ g ⟨2, by decide⟩) <|
  dones ⟨3, by decide⟩ (fun g => slQ g ⟨3, by decide⟩) (fun g => exactQ g ⟨3, by decide⟩) <|
  dones ⟨4, by decide⟩ (fun g => slQ g ⟨4, by decide⟩) (fun g => exactQ g ⟨4, by decide⟩) <|
  dones ⟨5, by decide⟩ (fun g => slQ g ⟨5, by decide⟩) (fun g => exactQ g ⟨5, by decide⟩) <|
  dones ⟨6, by decide⟩ (fun g => slQ g ⟨6, by decide⟩) (fun g => exactQ g ⟨6, by decide⟩) <|
  finish k

/-- The body: the handshake with both neighbours, then the work. -/
def steps : P F :=
  .op .deviceId fun d =>
  .op (.semSignal (Dev.tc (⟨k0_dev1 d, k0_dev1_lt d⟩ : Dev nD)) barS (1#32 : BitVec 32).toInt) fun _ =>
  .op (.semSignal (Dev.tc (⟨k0_dev2 d, k0_dev2_lt d⟩ : Dev nD)) barS (1#32 : BitVec 32).toInt) fun _ =>
  .op (.semWait barS (2#32 : BitVec 32).toInt) fun _ =>
  work d (.ret ⟨⟩)

end Cert.KernelIdeal.St

end
-- ==== Proof.Ideal.Same.lean ====
module

public import proofs.«01_k».proof.Proof.Ideal.Steps
public import Idealize.ShloMosaic.Lib.Tactic

@[expose] public section

/-! # The printed body is the sequence of steps -/

noncomputable section

namespace Cert.KernelIdeal.St

open Idealize.ShloMosaic Idealize.ShloMosaic.TcCoe Idealize.SL.Sem
open Cert.KernelIdeal Cert.KernelIdeal.Gen

variable {F : FTy → Type} [FloatOps F]

set_option maxRecDepth 100000 in
theorem body_eq :
    (cc0__body mX (Memref.isWhole_whole _) mQA (Memref.isWhole_whole _) mQB (Memref.isWhole_whole _) mOA (Memref.isWhole_whole _)
      mOB (Memref.isWhole_whole _) mK (Memref.isWhole_whole _) mV (Memref.isWhole_whole _) mOut (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13 : P F) = steps := by
  sl_kernel_rfl

end Cert.KernelIdeal.St

end
-- ==== Proof.Ideal.Talk.lean ====
module

public import proofs.«01_k».proof.Proof.Ideal.Same
public import Idealize.ShloMosaic.Lib.Pipeline.Launch
public import Idealize.ShloMosaic.Lib.Rounds.Family

@[expose] public section

/-! # What the devices tell each other

Two rings pass blocks at once: the first towards `right`, the second towards `left`. On each ring two kinds of block
travel, a projection block (kind 0) and an output block (kind 1). Slot `s` of a ring on a device receives once, from the
neighbour behind, the block that the neighbour holds in its slot before; the copy's departure tells the sender that its
own slot is free of the transfer. A handshake on the barrier's semaphore comes first: each device gives both neighbours
its slots that they will write. Here: the cells, what lands on each, what a device owes, and the order of the waits. -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)
open Cert.KernelIdeal Cert.KernelIdeal.Gen

variable {F : FTy → Type} [FloatOps F]

/-- The rounds library's algebra, duties named by a ring. -/
abbrev UT : Type := URounds (GSem nD τ sig) (Fin 2)
/-- The pipeline's copy of it. -/
abbrev UP : Type := URounds (GSem nD τ sig) Unit
/-- Both. -/
abbrev UU : Type := UP × UT

local notation "𝕄" => MT nD τ sig Unit (Elt F) ℕ UU ℕ

def EP : Emb UP (MT nD τ sig Unit (Elt F) ℕ UU ℕ) :=
  (Emb.inl : Emb UP UU).trans (uEmb (nD := nD) (sig := sig) (Ix := Unit) (Val := Elt F) (Name := ℕ) (U := UU) (Lvl := ℕ)).toEmb
def ER : Emb UT (MT nD τ sig Unit (Elt F) ℕ UU ℕ) :=
  (Emb.inr : Emb UT UU).trans (uEmb (nD := nD) (sig := sig) (Ix := Unit) (Val := Elt F) (Name := ℕ) (U := UU) (Lvl := ℕ)).toEmb

instance EP_landsIn : (EP : Emb UP 𝕄).LandsIn (upEmb : UEmb _ 𝕄) := by unfold EP; infer_instance
instance ER_landsIn : (ER : Emb UT 𝕄).LandsIn (upEmb : UEmb _ 𝕄) := by unfold ER; infer_instance

/-! ## What the devices start from -/

/-- The staged blocks of every device. -/
structure Inp (F : FTy → Type) where
  x : Dev nD → S2x512x768.Idx → Elt F .bf16
  wq : Fin 2 → Dev nD → S768x256.Idx → Elt F .bf16
  wo : Fin 2 → Dev nD → S256x768.Idx → Elt F .bf16
  k : Dev nD → S2x64x64x512.Idx → Elt F .bf16
  v : Dev nD → S2x64x64x512.Idx → Elt F .bf16

variable (I : Inp F)

/-! ## The ring -/

theorem left_right (c : Dev nD) : left (right c) = c := by revert c; decide
theorem right_left (c : Dev nD) : right (left c) = c := by revert c; decide
theorem own_zero (g : Fin 2) (c : Dev nD) : own g 0 c = c := by match g with | 0 => rfl | 1 => rfl
/-- A block stays its owner's as it passes on. -/
theorem own_nbr (g : Fin 2) (s : ℕ) (c : Dev nD) : own g (s + 1) (nbr g c) = own g s c := by
  match g with
  | 0 => show left^[s + 1] (right c) = left^[s] c; rw [Function.iterate_succ_apply, left_right]
  | 1 => show right^[s + 1] (left c) = right^[s] c; rw [Function.iterate_succ_apply, right_left]

/-- The neighbour that gives on a ring. -/
def prv (g : Fin 2) (c : Dev nD) : Dev nD := match g with | 0 => left c | 1 => right c
theorem nbr_prv (g : Fin 2) (c : Dev nD) : nbr g (prv g c) = c := by match g with | 0 => exact right_left c | 1 => exact left_right c
theorem prv_nbr (g : Fin 2) (c : Dev nD) : prv g (nbr g c) = c := by match g with | 0 => exact left_right c | 1 => exact right_left c
/-- A ring as a permutation of the devices. -/
def ring (g : Fin 2) : Dev nD ≃ Dev nD := ⟨nbr g, prv g, prv_nbr g, nbr_prv g⟩

theorem dev1_eq (c : Dev nD) : (⟨k0_dev1 c, k0_dev1_lt c⟩ : Dev nD) = prv 0 c := by revert c; decide +kernel
theorem dev2_eq (c : Dev nD) : (⟨k0_dev2 c, k0_dev2_lt c⟩ : Dev nD) = prv 1 c := by revert c; decide +kernel

/-! ## The cells -/

/-- The semaphore of a ring's kind of block, for departures (0) or arrivals (1), at a slot. -/
def smOf (g k r : Fin 2) (s : Fin 8) : DmaSem sig :=
  sm (match k, r with | 0, 0 => qSend g | 0, 1 => qRecv g | 1, 0 => oSend g | 1, 1 => oRecv g) s

/-- What a DMA semaphore is for. -/
def dec (n : DmaSem sig) : Option (Fin 2 × Fin 2 × Fin 2 × Fin 8) :=
  if h : 8 ≤ n.val then
    some (⟨(n.val - 8) / 32, by have : n.val < 72 := n.isLt; omega⟩, ⟨(n.val - 8) / 16 % 2, by omega⟩, ⟨(n.val - 8) / 8 % 2, by omega⟩, ⟨(n.val - 8) % 8, by omega⟩)
  else none

theorem dec_smOf (g k r : Fin 2) (s : Fin 8) : dec (smOf g k r s) = some (g, k, r, s) := by
  revert g k r s; decide +kernel

/-- A device's cell of a ring's kind of block, for departures or arrivals, at a slot; -/
abbrev cell (c : Dev nD) (g k r : Fin 2) (s : Fin 8) : GSem nD τ sig := ((c : Thread nD τ), .dma (smOf g k r s))
/-- and its barrier cell. -/
abbrev bar (c : Dev nD) : GSem nD τ sig := ((c : Thread nD τ), .reg barS)

/-- The units one copy gives. -/
abbrev N : ℕ := (slQ 0 0).view.dmaCredit
theorem N_pos : 0 < N := View.dmaCredit_pos _ (by decide)
theorem credit_Q (g : Fin 2) (s : Fin 8) : (slQ g s).view.dmaCredit = N := by match g with | 0 => rfl | 1 => rfl
theorem credit_O (g : Fin 2) (s : Fin 8) : (slO g s).view.dmaCredit = N := by match g with | 0 => rfl | 1 => rfl

/-! ## The slots -/

def slotQ (c : Dev nD) (g : Fin 2) (s : Fin 8) (q : PosShare TreeShare) : sProp 𝕄 :=
  iprop(∃ f : Buf (Elt F) ((slQ g s).view.loc (c : Thread nD τ)), ⌜(slQ g s).view.read (Elt F) f = I.wq g (own g s.val c)⌝
    ∗ ((slQ g s).view.loc (c : Thread nD τ) ↦[(slQ g s).view.set]{q} f))
def slotO (c : Dev nD) (g : Fin 2) (s : Fin 8) (q : PosShare TreeShare) : sProp 𝕄 :=
  iprop(∃ f : Buf (Elt F) ((slO g s).view.loc (c : Thread nD τ)), ⌜(slO g s).view.read (Elt F) f = I.wo g (own g s.val c)⌝
    ∗ ((slO g s).view.loc (c : Thread nD τ) ↦[(slO g s).view.set]{q} f))
def stgQ (c : Dev nD) (g : Fin 2) (q : PosShare TreeShare) : sProp 𝕄 :=
  iprop(∃ f : Buf (Elt F) ((mQ0 g).view.loc (c : Thread nD τ)), ⌜(mQ0 g).view.read (Elt F) f = I.wq g c⌝
    ∗ ((mQ0 g).view.loc (c : Thread nD τ) ↦[(mQ0 g).view.set]{q} f))
/-- A slot that holds the block it is for. -/
def slot (c : Dev nD) (g k : Fin 2) (s : Fin 8) (q : PosShare TreeShare) : sProp 𝕄 :=
  match k with | 0 => slotQ I c g s q | 1 => slotO I c g s q
/-- Where a ring's hop takes its block from: the slot, but the own projection block from where it was staged. -/
def src (c : Dev nD) (g k : Fin 2) (j : Fin 7) (q : PosShare TreeShare) : sProp 𝕄 :=
  match k with | 0 => if j.val = 0 then stgQ I c g q else slotQ I c g j.castSucc q | 1 => slotO I c g j.castSucc q
def garbQ (c : Dev nD) (g : Fin 2) (s : Fin 8) : sProp 𝕄 :=
  iprop(∃ f : Buf (Elt F) ((slQ g s).view.loc (c : Thread nD τ)), ((slQ g s).view.loc (c : Thread nD τ) ↦[(slQ g s).view.set]{fullShare} f))
def garbO (c : Dev nD) (g : Fin 2) (s : Fin 8) : sProp 𝕄 :=
  iprop(∃ f : Buf (Elt F) ((slO g s).view.loc (c : Thread nD τ)), ((slO g s).view.loc (c : Thread nD τ) ↦[(slO g s).view.set]{fullShare} f))
/-- A slot that holds anything. -/
def garb (c : Dev nD) (g k : Fin 2) (s : Fin 8) : sProp 𝕄 :=
  match k with | 0 => garbQ c g s | 1 => garbO c g s

/-! ## The schedule -/

/-- The lanes: a ring and a kind of block. -/
abbrev Ln : Type := Fin 2 × Fin 2

/-- What the handshake brings device `c` from its neighbour on ring `g`: the slots there that `c` will write, and that
    their arrival cells are open. -/
def barPay (c : Dev nD) (g : Fin 2) : sProp 𝕄 :=
  bigSep (Finset.univ : Finset (Fin 2 × Fin 7)) fun p =>
    iprop(garb (nbr g c) g p.1 p.2.succ ∗ reached ER (cell (nbr g c) g p.1 1 p.2.succ) 0)

/-- What lands on a DMA cell. -/
def dmaPay (c : Dev nD) : Option (Fin 2 × Fin 2 × Fin 2 × Fin 8) → sProp 𝕄
  | some (g, k, ⟨0, _⟩, s) => if h : s.val < 7 then src I c g k ⟨s.val, h⟩ fullShare.left else iprop(emp)
  | some (g, k, ⟨_ + 1, _⟩, s) => slot I c g k s fullShare
  | none => iprop(emp)

/-- Which cells are paid at all. -/
def paid : Option (Fin 2 × Fin 2 × Fin 2 × Fin 8) → Bool
  | some (_, _, ⟨0, _⟩, s) => s.val < 7
  | some (_, _, ⟨_ + 1, _⟩, s) => 0 < s.val
  | none => false

def dutiesOf (s : SemLoc sig) : Finset (Fin 2) :=
  match s with
  | .reg _ => Finset.univ
  | .dma n => if paid (dec n) then {0} else ∅

def rd : Rounds.Schedule (GSem nD τ sig) (Fin 2) 𝕄 where
  duties g r := if r = 0 ∧ g.1.2 = .tc then dutiesOf g.2 else ∅
  unitless _ := False
  amount g _ _ := match g.2 with | .reg _ => 1 | .dma _ => N
  payload g _ d := match g.2 with | .reg _ => barPay g.1.1 d | .dma n => dmaPay I g.1.1 (dec n)
  amount_pos g _ _ _ := by
    rcases g with ⟨t, s | s⟩
    · exact Nat.one_pos
    · exact N_pos

instance slotQ_storable (c g s q) : BI.Storable (upEmb : UEmb _ 𝕄) (slotQ I c g s q) := by unfold slotQ; infer_instance
instance slotO_storable (c g s q) : BI.Storable (upEmb : UEmb _ 𝕄) (slotO I c g s q) := by unfold slotO; infer_instance
instance stgQ_storable (c g q) : BI.Storable (upEmb : UEmb _ 𝕄) (stgQ I c g q) := by unfold stgQ; infer_instance
instance slot_storable (c g k s q) : BI.Storable (upEmb : UEmb _ 𝕄) (slot I c g k s q) := by
  unfold slot; split <;> infer_instance
instance src_storable (c g k s q) : BI.Storable (upEmb : UEmb _ 𝕄) (src I c g k s q) := by
  unfold src; (repeat' split) <;> infer_instance
instance garb_storable (c g k s) : BI.Storable (upEmb : UEmb _ 𝕄) (garb c g k s) := by
  unfold garb garbQ garbO; split <;> infer_instance
instance rd_storable (g : GSem nD τ sig) (r : ℕ) (d : Fin 2) : BI.Storable (upEmb : UEmb _ 𝕄) ((rd I).payload g r d) := by
  rcases g with ⟨t, s | s⟩
  · show BI.Storable (upEmb : UEmb _ 𝕄) (barPay t.1 d); unfold barPay; infer_instance
  · show BI.Storable (upEmb : UEmb _ 𝕄) (dmaPay I t.1 (dec s)); unfold dmaPay; (repeat' split) <;> infer_instance

section Sched

variable (c : Dev nD) (g k : Fin 2)

theorem duties_bar : (rd I).duties (bar c) 0 = Finset.univ := by
  show (if (0 : ℕ) = 0 ∧ (bar c).1.2 = .tc then dutiesOf (bar c).2 else ∅) = _
  exact if_pos ⟨rfl, rfl⟩
theorem duties_send (j : Fin 7) : (rd I).duties (cell c g k 0 j.castSucc) 0 = {0} := by
  show (if (0 : ℕ) = 0 ∧ (cell c g k 0 j.castSucc).1.2 = .tc then (if paid (dec (smOf g k 0 j.castSucc)) then ({0} : Finset (Fin 2)) else ∅) else ∅) = {0}
  rw [if_pos ⟨rfl, rfl⟩]
  rw [dec_smOf]; exact if_pos (by simp [paid])
theorem duties_recv (j : Fin 7) : (rd I).duties (cell c g k 1 j.succ) 0 = {0} := by
  show (if (0 : ℕ) = 0 ∧ (cell c g k 1 j.succ).1.2 = .tc then (if paid (dec (smOf g k 1 j.succ)) then ({0} : Finset (Fin 2)) else ∅) else ∅) = {0}
  rw [if_pos ⟨rfl, rfl⟩]
  rw [dec_smOf]; exact if_pos (by simp [paid])
theorem duties_later (a : GSem nD τ sig) : ∀ r, 1 ≤ r → (rd I).duties a r = ∅ := fun r hr => if_neg fun h => by omega
theorem duties_idle (r : ℕ) (a s) (h : paid (some (g, k, a, s)) = false) : (rd I).duties (cell c g k a s) r = ∅ := by
  by_cases hr : r = 0
  · refine (if_pos ⟨hr, rfl⟩).trans ?_
    show (if paid (dec (smOf g k a s)) then ({0} : Finset (Fin 2)) else ∅) = ∅
    rw [dec_smOf, h]; rfl
  · exact if_neg fun h => hr h.1

theorem expect_bar : (rd I).expect (bar c) 0 = 2 := by
  unfold Schedule.expect Schedule.amountOf; rw [duties_bar]; rfl
theorem expect_send (j : Fin 7) : (rd I).expect (cell c g k 0 j.castSucc) 0 = N := by
  unfold Schedule.expect Schedule.amountOf; rw [duties_send, Finset.sum_singleton]; rfl
theorem expect_recv (j : Fin 7) : (rd I).expect (cell c g k 1 j.succ) 0 = N := by
  unfold Schedule.expect Schedule.amountOf; rw [duties_recv, Finset.sum_singleton]; rfl

theorem payload_send (j : Fin 7) (d : Fin 2) : (rd I).payload (cell c g k 0 j.castSucc) 0 d = src I c g k j fullShare.left := by
  show dmaPay I c (dec (smOf g k 0 j.castSucc)) = _
  rw [dec_smOf]; exact dif_pos j.isLt
theorem payload_recv (j : Fin 7) (d : Fin 2) : (rd I).payload (cell c g k 1 j.succ) 0 d = slot I c g k j.succ fullShare := by
  show dmaPay I c (dec (smOf g k 1 j.succ)) = _
  rw [dec_smOf]; rfl

theorem rest_bar : bigSep ((rd I).duties (bar c) 0 \ ∅) (fun d => (rd I).payload (bar c) 0 d) = iprop(barPay c 0 ∗ barPay c 1) := by
  rw [Finset.sdiff_empty, duties_bar]; exact bigSep_univ_two _
theorem rest_send (j : Fin 7) : bigSep ((rd I).duties (cell c g k 0 j.castSucc) 0 \ ∅) (fun d => (rd I).payload (cell c g k 0 j.castSucc) 0 d)
    = src I c g k j fullShare.left := by
  rw [Finset.sdiff_empty, duties_send, bigSep_singleton, payload_send]
theorem rest_recv (j : Fin 7) : bigSep ((rd I).duties (cell c g k 1 j.succ) 0 \ ∅) (fun d => (rd I).payload (cell c g k 1 j.succ) 0 d)
    = slot I c g k j.succ fullShare := by
  rw [Finset.sdiff_empty, duties_recv, bigSep_singleton, payload_recv]

end Sched

/-! ## Debts and levels -/

/-- The hops still to come. -/
abbrev from' (h : ℕ) : Finset (Fin 7) := Finset.univ.filter fun j => h ≤ j.val
theorem from_step (j : Fin 7) : from' j.val = insert j (from' (j.val + 1)) := by revert j; decide
theorem not_mem_from (j : Fin 7) : j ∉ from' (j.val + 1) := by revert j; decide
/-- The hops gone by. -/
abbrev upto (h : ℕ) : Finset (Fin 7) := Finset.univ.filter fun j => j.val < h
theorem upto_step (j : Fin 7) : upto (j.val + 1) = insert j (upto j.val) := by revert j; decide
theorem not_mem_upto (j : Fin 7) : j ∉ upto j.val := by revert j; decide

/-- One lane's debt of one hop: the arrival at the neighbour. -/
abbrev due1 (c : Dev nD) (g k : Fin 2) (j : Fin 7) : CellTallies nD τ sig Unit := tallyAt (cell (nbr g c) g k 1 j.succ) () N
/-- A hop's. -/
def due (c : Dev nD) (j : Fin 7) : CellTallies nD τ sig Unit := due1 c 1 1 j + due1 c 1 0 j + due1 c 0 1 j + due1 c 0 0 j
/-- What a device owes before hop `h`. -/
def owed (c : Dev nD) (h : ℕ) : CellTallies nD τ sig Unit := ∑ j ∈ from' h, due c j
theorem owed_step (c : Dev nD) (j : Fin 7) : owed c j.val = owed c (j.val + 1) + due c j := by
  unfold owed; rw [from_step, Finset.sum_insert (not_mem_from j), add_comm]
theorem owed_end (c : Dev nD) : owed c 7 = 0 := by
  unfold owed; rw [show from' 7 = ∅ from by decide, Finset.sum_empty]
/-- And at launch: the signals to both neighbours too. -/
def O₀ (c : Dev nD) : CellTallies nD τ sig Unit := owed c 0 + tallyAt (bar (prv 1 c)) () 1 + tallyAt (bar (prv 0 c)) () 1

/-- Every TensorCore cell has one index; -/
def L (g : GSem nD τ sig) : Finset Unit := if g.1.2 = .tc then {()} else ∅
/-- the arrivals at slot `s` are waited for after the handshake, and in the slots' order. -/
def lvS : SemLoc sig → ℕ
  | .reg _ => 1
  | .dma n => match dec n with | some (_, _, ⟨1, _⟩, s) => 1 + s.val | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (g k : Fin 2) (s : Fin 8) (u : Unit) : lv (cell c g k 1 s) u = 1 + s.val := by
  show (match dec (smOf g k 1 s) with | some (_, _, ⟨1, _⟩, s) => 1 + s.val | _ => 0) = _
  rw [dec_smOf]; rfl
theorem lv_send (c : Dev nD) (g k : Fin 2) (s : Fin 8) (u : Unit) : lv (cell c g k 0 s) u = 0 := by
  show (match dec (smOf g k 0 s) with | some (_, _, ⟨1, _⟩, s) => 1 + s.val | _ => 0) = _
  rw [dec_smOf]; rfl

theorem tally_pos {a b : GSem nD τ sig} {u : Unit} {n : ℕ} (h : 0 < (tallyAt a () n : CellTallies nD τ sig Unit) b u) : b = a := by
  rw [tallyAt_apply] at h
  by_contra hn
  rw [if_neg fun h' => hn h'.1] at h
  exact Nat.lt_irrefl 0 h

/-- Where a device's debts of the later hops lie. -/
theorem owed_pos {c : Dev nD} {h : ℕ} {a : GSem nD τ sig} {u : Unit} (hp : 0 < owed c h a u) :
    ∃ g k, ∃ j : Fin 7, h ≤ j.val ∧ a = cell (nbr g c) g k 1 j.succ := by
  unfold owed at hp
  rw [Finset.sum_apply, Finsupp.finsetSum_apply] at hp
  obtain ⟨j, hj, hjp⟩ := Finset.exists_ne_zero_of_sum_ne_zero (Nat.pos_iff_ne_zero.mp hp)
  have hjp := Nat.pos_of_ne_zero hjp
  unfold due at hjp
  simp only [Pi.add_apply, Finsupp.add_apply] at hjp
  have hm := (Finset.mem_filter.mp hj).2
  by_contra hn
  have hz : ∀ g k, due1 c g k j a u = 0 := fun g k => by
    by_contra hne
    exact hn ⟨g, k, j, hm, tally_pos (Nat.pos_of_ne_zero hne)⟩
  rw [hz, hz, hz, hz] at hjp
  exact Nat.lt_irrefl 0 hjp

/-- A wait below what is owed of hops `h` on. -/
theorem mayWait (c : Dev nD) (s : SemLoc sig) (h : ℕ) (hs : lvS s < 2 + h) :
    (levAts L lv : sProp 𝕄) ⊢ MayWait (c : Thread nD τ) s () (owed c h) :=
  MayOwe.of_cut (L := L) (lev := lv) (1 + h) (fun p hp => by rw [Finset.mem_singleton.mp hp, L_tc]; exact Finset.mem_singleton_self _)
    (fun a u hg => by obtain ⟨g, k, j, -, rfl⟩ := owed_pos hg; exact Finset.mem_singleton_self _)
    (fun p hp => by rw [Finset.mem_singleton.mp hp]; exact Nat.le_of_lt_succ (by show lvS s < (1 + h) + 1; omega))
    (fun a u hg => by
      obtain ⟨g, k, j, hj, rfl⟩ := owed_pos hg
      rw [lv_recv, Fin.val_succ]; omega)

end Cert.KernelIdeal.St

end
-- ==== Proof.Ideal.Lanes.lean ====
module

public import proofs.«01_k».proof.Proof.Ideal.Talk
public import Idealize.ShloMosaic.Lib.ViewIndex
public import Idealize.ShloMosaic.Lib.Tactic

@[expose] public section

/-! # One lane's copy of one hop: sent, arrived, departed -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)
open Cert.KernelIdeal Cert.KernelIdeal.Gen

variable {F : FTy → Type} [FloatOps F]

local notation "𝕄" => MT nD τ sig Unit (Elt F) ℕ UU ℕ

variable (I : Inp F)

abbrev 𝒱₀ : Variants := Variants.none

/-- What device `c` needs to run a program. -/
abbrev Wp (c : Dev nD) (p : P F) (Q : PUnit.{1} → sProp 𝕄) : sProp 𝕄 :=
  wp frame (wpE (defs₀ (F := F)) 𝒱₀ (c : Thread nD τ) none) Set.univ p Q

/-! ## The cells, all of them -/

/-- A cell's name: its device, and which of the device's. -/
abbrev Key : Type := Dev nD × Option (Fin 2 × Fin 2 × Fin 2 × Fin 8)
abbrev gcell : Key → GSem nD τ sig
  | (c, none) => bar c
  | (c, some (g, k, r, s)) => cell c g k r s

/-- Every cell's invariant. -/
def invs (κ : GSem nD τ sig → ℕ) : sProp 𝕄 :=
  bigSep (Finset.univ : Finset Key) fun x => cellInv ER (rd I) (κ (gcell x)) (gcell x)
instance invs_persistent (κ) : BI.Persistent (invs I κ) := by unfold invs; infer_instance
theorem invs_at (κ) (x : Key) : invs I κ ⊢ cellInv ER (rd I) (κ (gcell x)) (gcell x) := by
  unfold invs
  exact bigSep_elim (Finset.mem_univ x)

variable (κ : GSem nD τ sig → ℕ)

/-- What a device owes, whatever it waited for before. -/
def ow (c : Dev nD) (O : CellTallies nD τ sig Unit) : sProp 𝕄 := iprop(∃ W, owes (c : Thread nD τ) O W)

/-! ## A lane's state at a hop -/

/-- Before the hop: the neighbour's slot, and the rights to pay and to wait. -/
def todo1 (c : Dev nD) (g k : Fin 2) (j : Fin 7) : sProp 𝕄 :=
  iprop(garb (nbr g c) g k j.succ ∗ reached ER (cell (nbr g c) g k 1 j.succ) 0
    ∗ dutyTok ER (cell (nbr g c) g k 1 j.succ) 0 0 ∗ dutyTok ER (cell c g k 0 j.castSucc) 0 0 ∗ reached ER (cell c g k 0 j.castSucc) 0
    ∗ cred (tallyAt (cell c g k 1 j.succ) () N) ∗ atPos ER (cell c g k 1 j.succ) 0 ∅ 0 ∗ atPos ER (cell c g k 0 j.castSucc) 0 ∅ 0)
/-- The copy is under way: half of the source stays to be read. -/
def hold1 (c : Dev nD) (g k : Fin 2) (j : Fin 7) : sProp 𝕄 :=
  iprop(src I c g k j fullShare.right ∗ cred (tallyAt (cell c g k 0 j.castSucc) () N)
    ∗ cred (tallyAt (cell c g k 1 j.succ) () N) ∗ atPos ER (cell c g k 1 j.succ) 0 ∅ 0 ∗ atPos ER (cell c g k 0 j.castSucc) 0 ∅ 0)
/-- The hop's block has arrived. -/
def done1 (c : Dev nD) (g k : Fin 2) (j : Fin 7) : sProp 𝕄 :=
  iprop(src I c g k j fullShare.right ∗ cred (tallyAt (cell c g k 0 j.castSucc) () N)
    ∗ atPos ER (cell c g k 1 j.succ) 1 ∅ 0 ∗ atPos ER (cell c g k 0 j.castSucc) 0 ∅ 0)
/-- And its copy has left: the source is whole again. -/
def fin1 (c : Dev nD) (g k : Fin 2) (j : Fin 7) : sProp 𝕄 :=
  iprop(src I c g k j fullShare ∗ atPos ER (cell c g k 1 j.succ) 1 ∅ 0 ∗ atPos ER (cell c g k 0 j.castSucc) 1 ∅ 0)

/-- A view held at a share, reading a given block. -/
def rds {s : Shape} (m : Memref sig .tc .vmem s .bf16) (c : Dev nD) (w : s.Idx → Elt F .bf16) (q : PosShare TreeShare) : sProp 𝕄 :=
  iprop(∃ f : Buf (Elt F) (m.view.loc (c : Thread nD τ)), ⌜m.view.read (Elt F) f = w⌝ ∗ (m.view.loc (c : Thread nD τ) ↦[m.view.set]{q} f))

theorem rds_split {s : Shape} (m : Memref sig .tc .vmem s .bf16) (c : Dev nD) (w : s.Idx → Elt F .bf16) :
    rds m c w fullShare ⊢ iprop(rds m c w fullShare.left ∗ rds m c w fullShare.right) := by
  unfold rds
  iintro ⟨%f, %hf, H⟩
  ihave H := (pointsTo_share (PosShare.mem_left_op_right fullShare)).1 $$ H
  icases H with ⟨Hl, Hr⟩
  isplitl [Hl]
  · iexists f; isplitr; · (ipureintro; exact hf)
    iexact Hl
  · iexists f; isplitr; · (ipureintro; exact hf)
    iexact Hr

theorem read_on {s : Shape} {v : View sig .tc .vmem s .bf16} {f g : v.ty.Contents (Elt F)} (h : v.read (Elt F) f = v.read (Elt F) g) :
    ∀ i ∈ v.set, f i = g i := fun i hi => by
  obtain ⟨x, -, rfl⟩ := Finset.mem_map.mp hi
  exact View.eq_of_read_eq (congrFun h x)

theorem rds_join {s : Shape} (m : Memref sig .tc .vmem s .bf16) (c : Dev nD) (w : s.Idx → Elt F .bf16) :
    iprop(rds m c w fullShare.left ∗ rds m c w fullShare.right) ⊢ rds m c w fullShare := by
  unfold rds
  iintro ⟨⟨%f, %hf, Hl⟩, ⟨%f', %hf', Hr⟩⟩
  iexists f
  isplitr; · (ipureintro; exact hf)
  ihave Hr := (Entails.of_eq (pointsTo_congr (read_on (v := m.view) (hf'.trans hf.symm)))) $$ Hr
  iapply (pointsTo_share (PosShare.mem_left_op_right fullShare)).2
  isplitl [Hl] <;> iassumption

theorem src_O (c : Dev nD) (g : Fin 2) (j : Fin 7) (q) : src I c g 1 j q = rds (slO g j.castSucc) c (I.wo g (own g j.val c)) q := rfl
theorem src_Q (c : Dev nD) (g : Fin 2) (j : Fin 7) (hj : j.val ≠ 0) (q) : src I c g 0 j q = rds (slQ g j.castSucc) c (I.wq g (own g j.val c)) q :=
  if_neg hj
theorem src_Q0 (c : Dev nD) (g : Fin 2) (q) : src I c g 0 0 q = rds (mQ0 g) c (I.wq g (own g 0 c)) q := by
  rw [own_zero]; show (if (0 : Fin 7).val = 0 then stgQ I c g q else slotQ I c g (0 : Fin 7).castSucc q) = _
  rw [if_pos (by decide)]; rfl

theorem src_join (c : Dev nD) (g k : Fin 2) (j : Fin 7) :
    iprop(src I c g k j fullShare.left ∗ src I c g k j fullShare.right) ⊢ src I c g k j fullShare := by
  match k with
  | 1 => exact rds_join _ _ _
  | 0 =>
    by_cases hj : j.val = 0
    · obtain rfl : j = 0 := Fin.ext hj
      rw [src_Q0, src_Q0, src_Q0]; exact rds_join _ _ _
    · rw [src_Q I c g j hj, src_Q I c g j hj, src_Q I c g j hj]; exact rds_join _ _ _

/-! ## The steps -/

section

variable (c : Dev nD) (g k : Fin 2) (j : Fin 7) (K : P F)

/-- A copy sent. -/
theorem wp_lane (R : PUnit.{1} → sProp 𝕄) {s : Shape} (a b : Memref sig .tc .vmem s .bf16) (w : s.Idx → Elt F .bf16) (O : CellTallies nD τ sig Unit) (d : Dev nD)
    (hd : d = nbr g c) (ha : a.view.WordExact) (hb : b.view.WordExact)
    (ev : DmaTarget.Typed .vmem (.dma (smOf g k 1 j.succ)) (.remote (Dev.tc d) b (.dma (smOf g k 0 j.castSucc)) (rfl : b.view.ref.isScScratch = false)))
    (hsrc : ∀ q, src I c g k j q = rds a c w q) (hcr : b.view.dmaCredit = N)
    (hslot : rds b (nbr g c) w fullShare ⊢ slot I (nbr g c) g k j.succ fullShare)
    (hgarb : garb (nbr g c) g k j.succ ⊢ (iprop(∃ f : Buf (Elt F) (b.view.loc ((nbr g c : Dev nD) : Thread nD τ)), (b.view.loc ((nbr g c : Dev nD) : Thread nD τ) ↦[b.view.set]{fullShare} f)) : sProp 𝕄)) :
    iprop(invs I κ ∗ src I c g k j fullShare ∗ todo1 c g k j ∗ ow c (O + due1 c g k j))
      ⊢ iprop((hold1 I c g k j ∗ ow c O -∗ Wp c K R)
        -∗ Wp c (.op (.enqueueDma a (.remote (Dev.tc d) b (.dma (smOf g k 0 j.castSucc))) (.dma (smOf g k 1 j.succ)) ha hb ev) fun _ => K) R) := by
  subst hd
  have hd₁ : (0 : Fin 2) ∈ (rd I).duties (cell c g k 0 j.castSucc) 0 := by rw [duties_send]; exact Finset.mem_singleton_self _
  have hd₂ : (0 : Fin 2) ∈ (rd I).duties (cell (nbr g c) g k 1 j.succ) 0 := by rw [duties_recv]; exact Finset.mem_singleton_self _
  unfold todo1 hold1 ow
  iintro ⟨#HI, Hs, ⟨Hg, Hr, Ht, Ht', Hr', Hc, Ha, Ha'⟩, ⟨%W, HO⟩⟩ HK
  ihave Hs := (Entails.of_eq (hsrc fullShare)) $$ Hs
  ihave Hs := (rds_split a c w) $$ Hs
  icases Hs with ⟨Hl, Hrt⟩
  ihave Hg := hgarb $$ Hg
  icases Hg with ⟨%fd, Hg⟩
  unfold rds
  icases Hl with ⟨%f, %hf, Hl⟩
  iapply (Rounds.wp_send_pointsTo 𝒱₀ ER (rd I) (c : Thread nD τ) none (κ₁ := κ (cell c g k 0 j.castSucc)) (κ₂ := κ (cell (nbr g c) g k 1 j.succ))
    (r₁ := 0) (r₂ := 0) (d₁ := 0) (d₂ := 0) (fd := fd) (fs := f)
    hd₁ hd₂ () () N hcr rfl rfl O rfl (W := W)
    (by
      rw [payload_send, hsrc]; unfold rds
      iintro H; iexists f; isplitr; · (ipureintro; exact hf)
      iexact H)
    (by
      rw [payload_recv]; refine BIBase.Entails.trans ?_ hslot
      unfold rds
      iintro H
      iexists _
      isplitr
      rotate_left
      · iexact H
      · ipureintro; rw [View.read_write_univ, hf]))
    $$ [Hl Hg HO Ht Ht' Hr Hr']
  · isplitr; · iapply (invs_at I κ (c, some (g, k, 0, j.castSucc))); iexact HI
    isplitr; · iapply (invs_at I κ (nbr g c, some (g, k, 1, j.succ))); iexact HI
    isplitl [Hl]; · iexact Hl
    isplitl [Hg]; · iexact Hg
    isplitl [HO]; · iexact HO
    isplitl [Ht']; · iexact Ht'
    isplitl [Hr']; · iexact Hr'
    isplitl [Ht]; · iexact Ht
    iexact Hr
  iintro ⟨Hcs, HO⟩
  iapply HK
  isplitr [HO]
  · isplitl [Hrt]; · iapply (Entails.of_eq (hsrc fullShare.right).symm); unfold rds; iexact Hrt
    isplitl [Hcs]; · iexact Hcs
    isplitl [Hc]; · iexact Hc
    isplitl [Ha] <;> iassumption
  · iexists W; iexact HO

/-- A copy arrived. -/
theorem wp_arrive (R : PUnit.{1} → sProp 𝕄) {s : Shape} (a b : Memref sig .tc .vmem s .bf16) (ha : a.view.WordExact) (hb : b.view.WordExact) (hcr : b.view.dmaCredit = N) :
    iprop(invs I κ ∗ levAts L lv ∗ hold1 I c g k j ∗ ow c (owed c (j.val + 1)))
      ⊢ iprop((done1 I c g k j ∗ slot I c g k j.succ fullShare ∗ ow c (owed c (j.val + 1)) -∗ Wp c K R)
        -∗ Wp c (.op (.waitDma2 (smOf g k 1 j.succ) a b ha hb) fun _ => K) R) := by
  have hk : 0 + b.view.dmaCredit = (rd I).expect (cell c g k 1 j.succ) 0 := by rw [Nat.zero_add, expect_recv]; exact hcr
  have hl : lvS (.dma (smOf g k 1 j.succ)) < 2 + (j.val + 1) := by
    have h := lv_recv c g k j.succ ()
    rw [Fin.val_succ] at h
    exact lt_of_eq_of_lt h (by omega)
  unfold done1 hold1 ow
  iintro ⟨#HI, #Hlev, ⟨Hs, Hcs, Hc, Ha, Ha'⟩, ⟨%W, HO⟩⟩ HK
  iapply (Rounds.wp_wait_rest_token 𝒱₀ ER (rd I) (c : Thread nD τ) none (κ := κ (cell c g k 1 j.succ))
      (wpE_waitDma2_eq 𝒱₀ (c : Thread nD τ) none Set.univ) (Set.mem_univ _) () (O := owed c (j.val + 1)) (W := W) (R := 0) (m := 0) (T := ∅)
      hk) $$ [Hc HO Ha]
  · isplitr; · iapply (invs_at I κ (c, some (g, k, 1, j.succ))); iexact HI
    isplitl [Hc]; · rw [hcr]; iexact Hc
    isplitl [HO]; · iexact HO
    isplitr
    · iapply (mayWait c (.dma (smOf g k 1 j.succ)) (j.val + 1) hl); iexact Hlev
    iexact Ha
  iintro ⟨HO, Ha, -, Hp⟩
  ihave Hp := (Entails.of_eq (rest_recv I c g k j)) $$ Hp
  iapply HK
  isplitl [Hs Hcs Ha Ha']
  · isplitl [Hs]; · iexact Hs
    isplitl [Hcs]; · iexact Hcs
    isplitl [Ha] <;> iassumption
  isplitl [Hp]; · iexact Hp
  iexists _; iexact HO

/-- A copy departed. -/
theorem wp_depart (R : PUnit.{1} → sProp 𝕄) {s : Shape} (a b : Memref sig .tc .vmem s .bf16) (ha : a.view.WordExact) (hb : b.view.WordExact) (hcr : b.view.dmaCredit = N) :
    iprop(invs I κ ∗ done1 I c g k j ∗ ow c 0)
      ⊢ iprop((fin1 I c g k j ∗ ow c 0 -∗ Wp c K R)
        -∗ Wp c (.op (.waitDma2 (smOf g k 0 j.castSucc) a b ha hb) fun _ => K) R) := by
  have hk : 0 + b.view.dmaCredit = (rd I).expect (cell c g k 0 j.castSucc) 0 := by rw [Nat.zero_add, expect_send]; exact hcr
  unfold done1 fin1 ow
  iintro ⟨#HI, ⟨Hs, Hcs, Ha, Ha'⟩, ⟨%W, HO⟩⟩ HK
  iapply (Rounds.wp_wait_rest_token 𝒱₀ ER (rd I) (c : Thread nD τ) none (κ := κ (cell c g k 0 j.castSucc))
      (wpE_waitDma2_eq 𝒱₀ (c : Thread nD τ) none Set.univ) (Set.mem_univ _) () (O := 0) (W := W) (R := 0) (m := 0) (T := ∅)
      hk) $$ [Hcs HO Ha']
  · isplitr; · iapply (invs_at I κ (c, some (g, k, 0, j.castSucc))); iexact HI
    isplitl [Hcs]; · rw [hcr]; iexact Hcs
    isplitl [HO]; · iexact HO
    isplitr; · rw [MayWait_zero]; iempintro
    iexact Ha'
  iintro ⟨HO, Ha', -, Hp⟩
  ihave Hp := (Entails.of_eq (rest_send I c g k j)) $$ Hp
  iapply HK
  isplitr [HO]
  · isplitl [Hs Hp]
    · iapply (src_join I c g k j); isplitl [Hp] <;> iassumption
    isplitl [Ha] <;> iassumption
  iexists _; iexact HO

end

end Cert.KernelIdeal.St

end
-- ==== Proof.Ideal.Hop.lean ====
module

public import proofs.«01_k».proof.Proof.Ideal.Lanes
public import Idealize.ShloMosaic.Lib.Pipeline.Value

@[expose] public section

/-! # A hop's four copies, and the reads between their start and their arrival -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (κ : GSem nD τ sig → ℕ)

/-- One thing per lane. -/
def lanes (f : Fin 2 → Fin 2 → sProp 𝕄) : sProp 𝕄 := iprop(f 0 0 ∗ f 0 1 ∗ f 1 0 ∗ f 1 1)

/-- The projection blocks' source of a hop is this view. -/
abbrev IsSrc (c : Dev nD) (j : Fin 7) (m : Fin 2 → Memref sig .tc .vmem S768x256 .bf16) : Prop :=
  ∀ g q, src I c g 0 j q = rds (m g) c (I.wq g (own g j.val c)) q

theorem isSrc0 (c : Dev nD) : IsSrc I c 0 mQ0 := fun g q => src_Q0 I c g q
theorem isSrc (c : Dev nD) (j : Fin 7) (hj : j.val ≠ 0) : IsSrc I c j (fun g => slQ g j.castSucc) := fun g q => src_Q I c g j hj q

section Lane

variable (c : Dev nD) (g : Fin 2) (j : Fin 7) (K : P F)
  (m : Fin 2 → Memref sig .tc .vmem S768x256 .bf16) (hs : ∀ g, (m g).view.WordExact)

theorem sendQ_wp (R : PUnit.{1} → sProp 𝕄) (d : Dev nD) (hd : d = nbr g c) (O : CellTallies nD τ sig Unit) (hm : IsSrc I c j m) :
    iprop(invs I κ ∗ src I c g 0 j fullShare ∗ todo1 c g 0 j ∗ ow c (O + due1 c g 0 j))
      ⊢ iprop((hold1 I c g 0 j ∗ ow c O -∗ Wp c K R) -∗ Wp c (sendQ d g j (m g) (hs g) K) R) :=
  wp_lane I κ c g 0 j K R (m g) (slQ g j.succ) (I.wq g (own g j.val c)) O d hd (hs g) (exactQ g j.succ) _ (hm g) (credit_Q g j.succ)
    (by
      rw [show slot I (nbr g c) g 0 j.succ fullShare = rds (slQ g j.succ) (nbr g c) (I.wq g (own g (j.val + 1) (nbr g c))) fullShare from rfl, own_nbr])
    (BI.Entails.refl _)

theorem sendO_wp (R : PUnit.{1} → sProp 𝕄) (d : Dev nD) (hd : d = nbr g c) (O : CellTallies nD τ sig Unit) :
    iprop(invs I κ ∗ src I c g 1 j fullShare ∗ todo1 c g 1 j ∗ ow c (O + due1 c g 1 j))
      ⊢ iprop((hold1 I c g 1 j ∗ ow c O -∗ Wp c K R) -∗ Wp c (sendO d g j K) R) :=
  wp_lane I κ c g 1 j K R (slO g j.castSucc) (slO g j.succ) (I.wo g (own g j.val c)) O d hd (exactO g j.castSucc) (exactO g j.succ) _ (src_O I c g j) (credit_O g j.succ)
    (by
      rw [show slot I (nbr g c) g 1 j.succ fullShare = rds (slO g j.succ) (nbr g c) (I.wo g (own g (j.val + 1) (nbr g c))) fullShare from rfl, own_nbr])
    (BI.Entails.refl _)

theorem waitQ_wp (R : PUnit.{1} → sProp 𝕄) :
    iprop(invs I κ ∗ levAts L lv ∗ hold1 I c g 0 j ∗ ow c (owed c (j.val + 1)))
      ⊢ iprop((done1 I c g 0 j ∗ slot I c g 0 j.succ fullShare ∗ ow c (owed c (j.val + 1)) -∗ Wp c K R) -∗ Wp c (waitQ g j (m g) (hs g) K) R) :=
  wp_arrive I κ c g 0 j K R (m g) (slQ g j.succ) (hs g) (exactQ g j.succ) (credit_Q g j.succ)
theorem waitO_wp (R : PUnit.{1} → sProp 𝕄) :
    iprop(invs I κ ∗ levAts L lv ∗ hold1 I c g 1 j ∗ ow c (owed c (j.val + 1)))
      ⊢ iprop((done1 I c g 1 j ∗ slot I c g 1 j.succ fullShare ∗ ow c (owed c (j.val + 1)) -∗ Wp c K R) -∗ Wp c (waitO g j K) R) :=
  wp_arrive I κ c g 1 j K R (slO g j.castSucc) (slO g j.succ) (exactO g j.castSucc) (exactO g j.succ) (credit_O g j.succ)
theorem doneQ_wp (R : PUnit.{1} → sProp 𝕄) (hcr : (m g).view.dmaCredit = N) :
    iprop(invs I κ ∗ done1 I c g 0 j ∗ ow c 0)
      ⊢ iprop((fin1 I c g 0 j ∗ ow c 0 -∗ Wp c K R) -∗ Wp c (doneQ g j (m g) (hs g) K) R) :=
  wp_depart I κ c g 0 j K R (slQ g j.succ) (m g) (exactQ g j.succ) (hs g) hcr
theorem doneO_wp (R : PUnit.{1} → sProp 𝕄) :
    iprop(invs I κ ∗ done1 I c g 1 j ∗ ow c 0)
      ⊢ iprop((fin1 I c g 1 j ∗ ow c 0 -∗ Wp c K R) -∗ Wp c (doneO g j K) R) :=
  wp_depart I κ c g 1 j K R (slO g j.succ) (slO g j.castSucc) (exactO g j.succ) (exactO g j.castSucc) (credit_O g j.castSucc)

end Lane

section Hop

variable (c : Dev nD) (j : Fin 7) (K : P F)
  (m : Fin 2 → Memref sig .tc .vmem S768x256 .bf16) (hs : ∀ g, (m g).view.WordExact)

/-- The four copies started. -/
theorem sends_wp (R : PUnit.{1} → sProp 𝕄) (hm : IsSrc I c j m) :
    iprop(invs I κ ∗ lanes (fun g k => src I c g k j fullShare) ∗ lanes (fun g k => todo1 c g k j) ∗ ow c (owed c j.val))
      ⊢ iprop((lanes (fun g k => hold1 I c g k j) ∗ ow c (owed c (j.val + 1)) -∗ Wp c K R) -∗ Wp c (sends c j m hs K) R) := by
  rw [owed_step]
  unfold lanes sends due
  iintro ⟨#HI, ⟨Hs0, Hs1, Hs2, Hs3⟩, ⟨Ht0, Ht1, Ht2, Ht3⟩, HO⟩ HK
  rw [← add_assoc, ← add_assoc, ← add_assoc]
  iapply (sendQ_wp I κ c 0 j _ m hs R (dstT j 0 c) (dstT_eq j 0 c) _ hm) $$ [Hs0 Ht0 HO]
  · isplitr; · iexact HI
    isplitl [Hs0]; · iexact Hs0
    isplitl [Ht0] <;> iassumption
  iintro ⟨H0, HO⟩
  iapply (sendO_wp I κ c 0 j _ R (dstT j 1 c) (dstT_eq j 1 c) _) $$ [Hs1 Ht1 HO]
  · isplitr; · iexact HI
    isplitl [Hs1]; · iexact Hs1
    isplitl [Ht1] <;> iassumption
  iintro ⟨H1, HO⟩
  iapply (sendQ_wp I κ c 1 j _ m hs R (dstT j 2 c) (dstT_eq j 2 c) _ hm) $$ [Hs2 Ht2 HO]
  · isplitr; · iexact HI
    isplitl [Hs2]; · iexact Hs2
    isplitl [Ht2] <;> iassumption
  iintro ⟨H2, HO⟩
  iapply (sendO_wp I κ c 1 j _ R (dstT j 3 c) (dstT_eq j 3 c) _) $$ [Hs3 Ht3 HO]
  · isplitr; · iexact HI
    isplitl [Hs3]; · iexact Hs3
    isplitl [Ht3] <;> iassumption
  iintro ⟨H3, HO⟩
  iapply HK
  isplitr [HO]
  · isplitl [H0]; · iexact H0
    isplitl [H1]; · iexact H1
    isplitl [H2] <;> iassumption
  iexact HO

/-- The four blocks arrived. -/
theorem waits_wp (R : PUnit.{1} → sProp 𝕄) :
    iprop(invs I κ ∗ levAts L lv ∗ lanes (fun g k => hold1 I c g k j) ∗ ow c (owed c (j.val + 1)))
      ⊢ iprop((lanes (fun g k => done1 I c g k j) ∗ lanes (fun g k => slot I c g k j.succ fullShare) ∗ ow c (owed c (j.val + 1)) -∗ Wp c K R)
        -∗ Wp c (waits j m hs K) R) := by
  unfold lanes waits
  iintro ⟨#HI, #Hlev, ⟨H0, H1, H2, H3⟩, HO⟩ HK
  iapply (waitQ_wp I κ c 0 j _ m hs R) $$ [H0 HO]
  · isplitr; · iexact HI
    isplitr; · iexact Hlev
    isplitl [H0] <;> iassumption
  iintro ⟨H0, Hs0, HO⟩
  iapply (waitO_wp I κ c 0 j _ R) $$ [H1 HO]
  · isplitr; · iexact HI
    isplitr; · iexact Hlev
    isplitl [H1] <;> iassumption
  iintro ⟨H1, Hs1, HO⟩
  iapply (waitQ_wp I κ c 1 j _ m hs R) $$ [H2 HO]
  · isplitr; · iexact HI
    isplitr; · iexact Hlev
    isplitl [H2] <;> iassumption
  iintro ⟨H2, Hs2, HO⟩
  iapply (waitO_wp I κ c 1 j _ R) $$ [H3 HO]
  · isplitr; · iexact HI
    isplitr; · iexact Hlev
    isplitl [H3] <;> iassumption
  iintro ⟨H3, Hs3, HO⟩
  iapply HK
  isplitl [H0 H1 H2 H3]
  · isplitl [H0]; · iexact H0
    isplitl [H1]; · iexact H1
    isplitl [H2] <;> iassumption
  isplitr [HO]
  · isplitl [Hs0]; · iexact Hs0
    isplitl [Hs1]; · iexact Hs1
    isplitl [Hs2] <;> iassumption
  iexact HO

/-- The four copies left. -/
theorem dones_wp (R : PUnit.{1} → sProp 𝕄) (hcr : ∀ g, (m g).view.dmaCredit = N) :
    iprop(invs I κ ∗ lanes (fun g k => done1 I c g k j) ∗ ow c 0)
      ⊢ iprop((lanes (fun g k => fin1 I c g k j) ∗ ow c 0 -∗ Wp c K R) -∗ Wp c (dones j m hs K) R) := by
  unfold lanes dones
  iintro ⟨#HI, ⟨H0, H1, H2, H3⟩, HO⟩ HK
  iapply (doneQ_wp I κ c 0 j _ m hs R (hcr 0)) $$ [H0 HO]
  · isplitr; · iexact HI
    isplitl [H0] <;> iassumption
  iintro ⟨H0, HO⟩
  iapply (doneO_wp I κ c 0 j _ R) $$ [H1 HO]
  · isplitr; · iexact HI
    isplitl [H1] <;> iassumption
  iintro ⟨H1, HO⟩
  iapply (doneQ_wp I κ c 1 j _ m hs R (hcr 1)) $$ [H2 HO]
  · isplitr; · iexact HI
    isplitl [H2] <;> iassumption
  iintro ⟨H2, HO⟩
  iapply (doneO_wp I κ c 1 j _ R) $$ [H3 HO]
  · isplitr; · iexact HI
    isplitl [H3] <;> iassumption
  iintro ⟨H3, HO⟩
  iapply HK
  isplitr [HO]
  · isplitl [H0]; · iexact H0
    isplitl [H1]; · iexact H1
    isplitl [H2] <;> iassumption
  iexact HO

end Hop

/-! ## Reading a projection block -/

section Read

variable (c : Dev nD) (g : Fin 2)

theorem hz2 : (![0, 0] : Fin 2 → Nat) = fun _ => 0 := funext fun a => by fin_cases a <;> rfl
theorem hz3 : (![0, 0, 0] : Fin 3 → Nat) = fun _ => 0 := funext fun a => by fin_cases a <;> rfl

theorem loadQs_wp (R : PUnit.{1} → sProp 𝕄) (s : Fin 8) (w : S768x256.Idx → Elt F .bf16) (q : PosShare TreeShare) (K : FVec F S768x256 .bf16 → P F) :
    rds (slQ g s) c w q ⊢ iprop((rds (slQ g s) c w q -∗ Wp c (K w) R) -∗ Wp c (loadQs g s K) R) := by
  unfold rds
  iintro ⟨%f, %hf, H⟩ HK
  iapply (wp_load 𝒱₀ (c : Thread nD τ) none Set.univ (m := mQ g) (S := (slQ g s).view.set)
    (by
      rw [show (slQ g s).view.set = ((mQ g).view.slice (Rect.unit (s := S8x768x256) ![s.val, 0, 0] S1x768x256.size (inbQ s))).set from View.set_reshape _ _,
        View.set_slice]
      exact Finset.Subset.refl _)) $$ [H]
  · iexact H
  iintro H
  rw [← Memref.read_squeeze_slice (Val := Elt F) (mQ g) (Rect.unit (s := S8x768x256) ![s.val, 0, 0] S1x768x256.size (inbQ s)) (fun _ => rfl)
    squeezes_S1x768x256_S768x256 shapeCasts_S1x768x256_S768x256]
  rw [show ((((mQ g).slice (Rect.unit (s := S8x768x256) ![s.val, 0, 0] S1x768x256.size (inbQ s)) (fun _ => rfl)).squeeze S768x256
    squeezes_S1x768x256_S768x256).view.read (Elt F) f) = w from hf]
  iapply HK
  iexists f
  isplitr; · (ipureintro; exact hf)
  iexact H

theorem loadQ0_wp (R : PUnit.{1} → sProp 𝕄) (w : S768x256.Idx → Elt F .bf16) (q : PosShare TreeShare) (K : FVec F S768x256 .bf16 → P F) :
    rds (mQ0 g) c w q ⊢ iprop((rds (mQ0 g) c w q -∗ Wp c (K w) R) -∗ Wp c (loadQ0 g K) R) := by
  have hread : ∀ f : (mQ0 g).view.ty.Contents (Elt F), (mQ0 g).view.read (Elt F) f = w →
      shapeCast S768x256 ((mQ0 g).view.readAt (Elt F) (Rect.unit (s := S768x256) ![0, 0] S768x256.size inb_S768x256_S768x256_0_0).toLoadRect f) shapeCasts_S768x256_S768x256 = w := by
    intro f hf
    refine (shapeCast_self (s := S768x256) _ _).trans ?_
    match g, f, hf with
    | 0, f, hf => exact (Memref.readAt_unit_zero (Elt F) cc0_stg1_0 hz2 _ f).trans hf
    | 1, f, hf => exact (Memref.readAt_unit_zero (Elt F) cc0_stg2_0 hz2 _ f).trans hf
  unfold rds
  iintro ⟨%f, %hf, H⟩ HK
  iapply (wp_load 𝒱₀ (c : Thread nD τ) none Set.univ (m := mQ0 g) (S := (mQ0 g).view.set) (View.setOn_subset_set _ _)) $$ [H]
  · iexact H
  iintro H
  rw [hread f hf]
  iapply HK
  iexists f
  isplitr; · (ipureintro; exact hf)
  iexact H

end Read

end Cert.KernelIdeal.St

end
-- ==== Proof.Ideal.Table.lean ====
module

public import proofs.«01_k».proof.Proof.Ideal.Hop

@[expose] public section

/-! # The tables of attention results, filled batch by batch -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- The keys of head `r` of a group that device `c` reads for batch `b` at slot `s`; -/
def kread (c : Dev nD) (g b : Fin 2) (s : Fin 8) (r : Fin 4) : Vec F S1x1x64x512 .bf16 :=
  mK.view.readAt (Elt F) (Rect.unit (s := S2x64x64x512) (offT g b s c r) S1x1x64x512.size (offT_inb g b s c r)).toLoadRect (I.k c)
/-- its values. -/
def vread (c : Dev nD) (g b : Fin 2) (s : Fin 8) (r : Fin 4) : Vec F S1x1x64x512 .bf16 :=
  mV.view.readAt (Elt F) (Rect.unit (s := S2x64x64x512) (offT g b s c r) S1x1x64x512.size (offT_inb g b s c r)).toLoadRect (I.v c)

/-- The queries of a group. -/
def qI (c : Dev nD) (g : Fin 2) (s : Fin 8) : FVec F S1024x256 .bf16 := qOf (k0_pay5 (I.x c)) (I.wq g (own g s.val c))

/-- One group's attention of one batch. -/
def rowI (c : Dev nD) (g b : Fin 2) (s : Fin 8) : FVec F S512x256 .bf16 :=
  rowV (qI I c g s) b ![kread I c g b s 0, kread I c g b s 1, kread I c g b s 2, kread I c g b s 3]
    ![vread I c g b s 0, vread I c g b s 1, vread I c g b s 2, vread I c g b s 3]

/-- Which batch and which slot an index of the table belongs to, and where in their block it lies. -/
def bOf (i : S1024x2048.Idx) : Fin 2 := ⟨(i 0).val / 512, by have : (i 0).val < 1024 := (i 0).isLt; omega⟩
def sOf (i : S1024x2048.Idx) : Fin 8 := ⟨(i 1).val / 256, by have : (i 1).val < 2048 := (i 1).isLt; omega⟩
def inOf (i : S1024x2048.Idx) : S512x256.Idx := fun a =>
  match a with
  | ⟨0, _⟩ => ⟨(i 0).val % 512, Nat.mod_lt _ (by decide)⟩
  | ⟨1, _⟩ => ⟨(i 1).val % 256, Nat.mod_lt _ (by decide)⟩

/-- The table of a ring. -/
def tabI (c : Dev nD) (g : Fin 2) : Vec F S1024x2048 .bf16 := fun i => rowI I c g (bOf i) (sOf i) (inOf i)

/-- A table whose first `n` blocks are there. -/
def Filled (c : Dev nD) (g : Fin 2) (n : ℕ) (f : (mC g).view.ty.Contents (Elt F)) : Prop :=
  ∀ i : S1024x2048.Idx, 2 * (sOf i).val + (bOf i).val < n → (mC g).view.read (Elt F) f i = tabI I c g i

theorem filled_step (c : Dev nD) (g b : Fin 2) (s : Fin 8) (f : (mC g).view.ty.Contents (Elt F)) (h : Filled I c g (2 * s.val + b.val) f) :
    Filled I c g (2 * s.val + b.val + 1) (((mC g).access (rC b s)).write (Elt F) f (rowI I c g b s) Finset.univ) := by
  intro i hi
  have h0 : (i 0).val < 1024 := (i 0).isLt
  have h1 : (i 1).val < 2048 := (i 1).isLt
  by_cases hin : i ∈ Finset.univ.map (rC b s).emb
  · obtain ⟨x, -, rfl⟩ := Finset.mem_map.mp hin
    have e0 : ((rC b s).emb x 0).val = 512 * b.val + 1 * (x 0).val := Rect.emb_apply _ x 0
    have e1 : ((rC b s).emb x 1).val = 256 * s.val + 1 * (x 1).val := Rect.emb_apply _ x 1
    have hx0 : (x 0).val < 512 := (x 0).isLt
    have hx1 : (x 1).val < 256 := (x 1).isLt
    refine (View.read_slice_write_emb (v := (mC g).view) (rC b s) f (rowI I c g b s) (Finset.mem_univ x)).trans ?_
    have hb : bOf ((rC b s).emb x) = b := Fin.ext (by show ((rC b s).emb x 0).val / 512 = b.val; omega)
    have hs : sOf ((rC b s).emb x) = s := Fin.ext (by show ((rC b s).emb x 1).val / 256 = s.val; omega)
    have hx : inOf ((rC b s).emb x) = x := funext fun a => by
      match a with
      | ⟨0, _⟩ => exact Fin.ext (by show ((rC b s).emb x 0).val % 512 = (x 0).val; omega)
      | ⟨1, _⟩ => exact Fin.ext (by show ((rC b s).emb x 1).val % 256 = (x 1).val; omega)
    unfold tabI
    rw [hb, hs, hx]
  · refine (View.read_slice_write_of_not_mem (v := (mC g).view) (rC b s) f (rowI I c g b s) Finset.univ hin).trans ?_
    refine h i (lt_of_le_of_ne (Nat.le_of_lt_succ hi) fun he => hin ?_)
    have hb : (bOf i).val = b.val := by have := (bOf i).isLt; have := b.isLt; omega
    have hs : (sOf i).val = s.val := by omega
    rw [Rect.map_emb_univ, Rect.mem_set_unit]
    intro a
    match a with
    | ⟨0, _⟩ =>
      have : (i 0).val / 512 = b.val := hb
      show 512 * b.val ≤ (i 0).val ∧ (i 0).val < 512 * b.val + 512
      omega
    | ⟨1, _⟩ =>
      have : (i 1).val / 256 = s.val := hs
      show 256 * s.val ≤ (i 1).val ∧ (i 1).val < 256 * s.val + 256
      omega

/-- What the groups work on: the keys, the values and a ring's table. -/
def kv (c : Dev nD) : sProp 𝕄 := iprop((mK.view.loc (c : Thread nD τ) ↦{fullShare} I.k c) ∗ (mV.view.loc (c : Thread nD τ) ↦{fullShare} I.v c))
def tab (c : Dev nD) (g : Fin 2) (n : ℕ) : sProp 𝕄 :=
  iprop(∃ f : Buf (Elt F) ((mC g).view.loc (c : Thread nD τ)), ⌜Filled I c g n f⌝ ∗ ((mC g).view.loc (c : Thread nD τ) ↦{fullShare} f))

theorem batch_wp (R : PUnit.{1} → sProp 𝕄) (c : Dev nD) (g b : Fin 2) (s : Fin 8) (K : P F) :
    iprop(kv I c ∗ tab I c g (2 * s.val + b.val))
      ⊢ iprop((kv I c ∗ tab I c g (2 * s.val + b.val + 1) -∗ Wp c K R)
        -∗ Wp c (batch g b s (offT g b s c) (offT_inb g b s c) (qI I c g s) K) R) := by
  unfold kv tab batch
  iintro ⟨⟨Hk, Hv⟩, ⟨%f, %hf, Ht⟩⟩ HK
  iapply (wp_load 𝒱₀ (c : Thread nD τ) none Set.univ (m := mK) (Finset.subset_univ _)) $$ Hk; iintro Hk
  iapply (wp_load 𝒱₀ (c : Thread nD τ) none Set.univ (m := mV) (Finset.subset_univ _)) $$ Hv; iintro Hv
  iapply (wp_load 𝒱₀ (c : Thread nD τ) none Set.univ (m := mK) (Finset.subset_univ _)) $$ Hk; iintro Hk
  iapply (wp_load 𝒱₀ (c : Thread nD τ) none Set.univ (m := mV) (Finset.subset_univ _)) $$ Hv; iintro Hv
  iapply (wp_load 𝒱₀ (c : Thread nD τ) none Set.univ (m := mK) (Finset.subset_univ _)) $$ Hk; iintro Hk
  iapply (wp_load 𝒱₀ (c : Thread nD τ) none Set.univ (m := mV) (Finset.subset_univ _)) $$ Hv; iintro Hv
  iapply (wp_load 𝒱₀ (c : Thread nD τ) none Set.univ (m := mK) (Finset.subset_univ _)) $$ Hk; iintro Hk
  iapply (wp_load 𝒱₀ (c : Thread nD τ) none Set.univ (m := mV) (Finset.subset_univ _)) $$ Hv; iintro Hv
  iapply (wp_load 𝒱₀ (c : Thread nD τ) none Set.univ (m := mC g) (Finset.subset_univ _)) $$ Ht; iintro Ht
  iapply (wp_store 𝒱₀ (c : Thread nD τ) none Set.univ (m := mC g) (r := rC b s) (Mk := Finset.univ) (Finset.subset_univ _)) $$ Ht; iintro Ht
  iapply HK
  isplitl [Hk Hv]
  · isplitl [Hk] <;> iassumption
  iexists _
  isplitr
  rotate_left
  · iexact Ht
  · ipureintro; exact filled_step I c g b s f hf

theorem group_wp (R : PUnit.{1} → sProp 𝕄) (c : Dev nD) (g : Fin 2) (s : Fin 8) (K : P F) :
    iprop(kv I c ∗ tab I c g (2 * s.val))
      ⊢ iprop((kv I c ∗ tab I c g (2 * (s.val + 1)) -∗ Wp c K R) -∗ Wp c (group c g s (qI I c g s) K) R) := by
  unfold group
  iintro ⟨Hk, Ht⟩ HK
  iapply (batch_wp I R c g 0 s _) $$ [Hk Ht]
  · isplitl [Hk] <;> iassumption
  iintro ⟨Hk, Ht⟩
  iapply (batch_wp I R c g 1 s _) $$ [Hk Ht]
  · isplitl [Hk] <;> iassumption
  iintro ⟨Hk, Ht⟩
  iapply HK
  isplitl [Hk] <;> iassumption

/-- Both rings' groups at a slot. -/
theorem groups_wp (R : PUnit.{1} → sProp 𝕄) (c : Dev nD) (s : Fin 8) (K : P F) :
    iprop(kv I c ∗ tab I c 0 (2 * s.val) ∗ tab I c 1 (2 * s.val))
      ⊢ iprop((kv I c ∗ tab I c 0 (2 * (s.val + 1)) ∗ tab I c 1 (2 * (s.val + 1)) -∗ Wp c K R)
        -∗ Wp c (group c 0 s (qI I c 0 s) <| group c 1 s (qI I c 1 s) K) R) := by
  iintro ⟨Hk, Ht, Ht'⟩ HK
  iapply (group_wp I R c 0 s _) $$ [Hk Ht]
  · isplitl [Hk] <;> iassumption
  iintro ⟨Hk, Ht⟩
  iapply (group_wp I R c 1 s _) $$ [Hk Ht']
  · isplitl [Hk] <;> iassumption
  iintro ⟨Hk, Ht'⟩
  iapply HK
  isplitl [Hk]; · iexact Hk
  isplitl [Ht] <;> iassumption

end Cert.KernelIdeal.St

end
-- ==== Proof.Ideal.Slots.lean ====
module

public import proofs.«01_k».proof.Proof.Ideal.Table
public import Idealize.ShloMosaic.Lib.Pipeline.StackWindow
public import Idealize.ShloMosaic.Lib.Ring

@[expose] public section

/-! # A ring's buffer as its eight slots -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Cut

variable {s : Shape} {e : EltTy} (m : Memref sig .tc .vmem s e) (r : Fin 8 → Rect s) (lead : s.Idx → Fin 8)

theorem cut_disj (hr : ∀ t x, x ∈ (r t).set ↔ lead x = t) : ∀ t t', t ≠ t' → Disjoint (m.view.slice (r t)).set (m.view.slice (r t')).set :=
  fun t t' h => View.disjoint_slice (Finset.disjoint_left.mpr fun x hx hx' => h (((hr t x).1 hx).symm.trans ((hr t' x).1 hx')))

theorem cut_union (hr : ∀ t x, x ∈ (r t).set ↔ lead x = t) (hm : m.view.set = Finset.univ) :
    (Finset.univ : Finset (Fin 8)).biUnion (β := m.view.ty.Idx) (fun t => (m.view.slice (r t)).set) = Finset.univ :=
  Finset.eq_univ_iff_forall.mpr fun i => by
    obtain ⟨x, -, rfl⟩ := Finset.mem_map.mp (show i ∈ m.view.set from hm ▸ Finset.mem_univ i)
    refine Finset.mem_biUnion.mpr ⟨lead x, Finset.mem_univ _, ?_⟩
    rw [View.set_slice]
    exact Finset.mem_map_of_mem _ ((hr _ x).2 rfl)

end Cut

section Rings

variable (I : Inp F) (c : Dev nD) (g : Fin 2)

abbrev rQ (s : Fin 8) : Rect S8x768x256 := Rect.unit (s := S8x768x256) ![s.val, 0, 0] S1x768x256.size (inbQ s)
abbrev rO (s : Fin 8) : Rect S8x256x768 := Rect.unit (s := S8x256x768) ![s.val, 0, 0] S1x256x768.size (inbO s)

theorem isQ (s : Fin 8) : StackWindow.IsMemberRect (![s.val, 0, 0] : Fin 3 → Nat) S1x768x256.size ![768, 256] s :=
  ⟨rfl, fun b => by fin_cases b <;> rfl, rfl, fun b => by fin_cases b <;> rfl⟩
theorem isO (s : Fin 8) : StackWindow.IsMemberRect (![s.val, 0, 0] : Fin 3 → Nat) S1x256x768.size ![256, 768] s :=
  ⟨rfl, fun b => by fin_cases b <;> rfl, rfl, fun b => by fin_cases b <;> rfl⟩

def leadQ (x : S8x768x256.Idx) : Fin 8 := x 0
def leadO (x : S8x256x768.Idx) : Fin 8 := x 0
theorem memQ (t : Fin 8) (x : S8x768x256.Idx) : x ∈ (rQ t).set ↔ leadQ x = t :=
  ((isQ t).mem_set_iff (inb := inbQ t) x).trans ⟨fun h => Fin.ext h, fun h => congrArg Fin.val h⟩
theorem memO (t : Fin 8) (x : S8x256x768.Idx) : x ∈ (rO t).set ↔ leadO x = t :=
  ((isO t).mem_set_iff (inb := inbO t) x).trans ⟨fun h => Fin.ext h, fun h => congrArg Fin.val h⟩
theorem univQ : (mQ g).view.set = Finset.univ := by match g with | 0 => exact View.set_whole _ | 1 => exact View.set_whole _
theorem univO : (mO g).view.set = Finset.univ := by match g with | 0 => exact View.set_whole _ | 1 => exact View.set_whole _
theorem slQ_set (s : Fin 8) : (slQ g s).view.set = ((mQ g).view.slice (rQ s)).set := View.set_reshape _ _
theorem slO_set (s : Fin 8) : (slO g s).view.set = ((mO g).view.slice (rO s)).set := View.set_reshape _ _

/-- A buffer of projection blocks is its eight slots, and back; -/
theorem splitQ (f : Buf (Elt F) ((mQ g).view.loc (c : Thread nD τ))) :
    ((mQ g).view.loc (c : Thread nD τ) ↦{fullShare} f : sProp 𝕄) ⊢ bigSep (Finset.univ : Finset (Fin 8)) fun s => garbQ c g s := by
  refine (Entails.of_eq (Ring.pointsTo_blocks (ℓ := (mQ g).view.loc (c : Thread nD τ)) (fun t => ((mQ g).view.slice (rQ t)).set)
    (cut_disj (mQ g) rQ leadQ memQ) (cut_union (mQ g) rQ leadQ memQ (univQ g)) f)).trans (bigSep_mono fun t _ => ?_)
  have h : ((slQ g t).view.loc (c : Thread nD τ) ↦[(slQ g t).view.set]{fullShare} f : sProp 𝕄) ⊢ garbQ c g t := by
    unfold garbQ; iintro H; iexists f; iexact H
  rw [slQ_set] at h; exact h
theorem joinQ (f₀ : Buf (Elt F) ((mQ g).view.loc (c : Thread nD τ))) :
    (bigSep (Finset.univ : Finset (Fin 8)) fun s => garbQ c g s : sProp 𝕄)
      ⊢ iprop(∃ f : Buf (Elt F) ((mQ g).view.loc (c : Thread nD τ)), (mQ g).view.loc (c : Thread nD τ) ↦{fullShare} f) := by
  refine (bigSep_mono fun t _ => ?_).trans (Ring.pointsTo_blocks_join_exists (ℓ := (mQ g).view.loc (c : Thread nD τ)) (fun t => ((mQ g).view.slice (rQ t)).set)
    (cut_disj (mQ g) rQ leadQ memQ) (cut_union (mQ g) rQ leadQ memQ (univQ g)) f₀)
  unfold garbQ
  rw [slQ_set]
  exact BI.Entails.refl _
/-- likewise one of output blocks, -/
theorem splitO (f : Buf (Elt F) ((mO g).view.loc (c : Thread nD τ))) :
    ((mO g).view.loc (c : Thread nD τ) ↦{fullShare} f : sProp 𝕄) ⊢ bigSep (Finset.univ : Finset (Fin 8)) fun s => garbO c g s := by
  refine (Entails.of_eq (Ring.pointsTo_blocks (ℓ := (mO g).view.loc (c : Thread nD τ)) (fun t => ((mO g).view.slice (rO t)).set)
    (cut_disj (mO g) rO leadO memO) (cut_union (mO g) rO leadO memO (univO g)) f)).trans (bigSep_mono fun t _ => ?_)
  have h : ((slO g t).view.loc (c : Thread nD τ) ↦[(slO g t).view.set]{fullShare} f : sProp 𝕄) ⊢ garbO c g t := by
    unfold garbO; iintro H; iexists f; iexact H
  rw [slO_set] at h; exact h

/-- which at the end holds every device's block, in the ring's order. -/
def WO : Vec F S8x256x768 .bf16 := fun i => I.wo g (own g (i 0).val c) (fun a => i a.succ)
def VO : (mO g).view.ty.Contents (Elt F) := match g with | 0 => WO I c 0 | 1 => WO I c 1
theorem read_VO : (mO g).view.read (Elt F) (VO I c g) = WO I c g := by match g with | 0 => rfl | 1 => rfl
theorem slO_VO (s : Fin 8) : (slO g s).view.read (Elt F) (VO I c g) = I.wo g (own g s.val c) := by
  refine (Memref.read_squeeze_slice (Val := Elt F) (mO g) (rO s) (fun _ => rfl) squeezes_S1x256x768_S256x768
    (show S1x256x768.ShapeCasts S256x768 from shapeCasts_S1x256x768_S256x768) (VO I c g)).trans ?_
  funext j
  refine (shapeCast_dropUnit_apply (n := 2) ![256, 768] _ _ j).trans ?_
  refine (View.readAt_apply (v := (mO g).view) (rO s).toLoadRect (VO I c g) _).trans ?_
  rw [read_VO]
  unfold WO
  have h0 : ((rO s).toLoadRect.idx (Fin.cons ⟨0, Nat.one_pos⟩ j) 0).val = s.val := by
    show s.val + 1 * 0 = s.val; omega
  have h1 : (fun a : Fin 2 => (rO s).toLoadRect.idx (Fin.cons ⟨0, Nat.one_pos⟩ j) a.succ) = j := funext fun a => Fin.ext (by
    match a with
    | 0 => show 0 + 1 * (j 0).val = (j 0).val; omega
    | 1 => show 0 + 1 * (j 1).val = (j 1).val; omega)
  rw [h0]
  exact congrArg _ h1

theorem joinO :
    (bigSep (Finset.univ : Finset (Fin 8)) fun s => slotO I c g s fullShare : sProp 𝕄) ⊢ ((mO g).view.loc (c : Thread nD τ) ↦{fullShare} VO I c g) := by
  refine (bigSep_mono fun t _ => ?_).trans (Entails.of_eq (Ring.pointsTo_blocks (ℓ := (mO g).view.loc (c : Thread nD τ)) (fun t => ((mO g).view.slice (rO t)).set)
    (cut_disj (mO g) rO leadO memO) (cut_union (mO g) rO leadO memO (univO g)) (VO I c g)).symm)
  have h : slotO I c g t fullShare ⊢ ((slO g t).view.loc (c : Thread nD τ) ↦[(slO g t).view.set]{fullShare} (VO I c g) : sProp 𝕄) := by
    unfold slotO
    iintro ⟨%f, %hf, H⟩
    iapply (Entails.of_eq (pointsTo_congr (read_on (v := (slO g t).view) (hf.trans (slO_VO I c g t).symm))))
    iexact H
  rw [slO_set] at h; exact h

end Rings

end Cert.KernelIdeal.St

end
-- ==== Proof.Ideal.Work.lean ====
module

public import proofs.«01_k».proof.Proof.Ideal.Slots

@[expose] public section

/-! # What follows the handshake -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (κ : GSem nD τ sig → ℕ)

/-! ## The own output blocks kept -/

abbrev rO0 : Rect S8x256x768 := Rect.unit (s := S8x256x768) ![0, 0, 0] S1x256x768.size inb_S8x256x768_S1x256x768_0_0_0

theorem keep_read (g : Fin 2) (f : (mO g).view.ty.Contents (Elt F)) (w : S256x768.Idx → Elt F .bf16) :
    (slO g 0).view.read (Elt F) (((mO g).access rO0).write (Elt F) f
      (shapeCast S1x256x768 (shapeCast S256x768 w shapeCasts_S256x768_S256x768) shapeCasts_S256x768_S1x256x768) Finset.univ) = w := by
  refine (Memref.read_squeeze_slice (Val := Elt F) (mO g) rO0 (fun _ => rfl) squeezes_S1x256x768_S256x768
    shapeCasts_S1x256x768_S256x768 _).trans ?_
  refine (congrArg (fun v => shapeCast S256x768 v shapeCasts_S1x256x768_S256x768)
    (View.read_write_univ (v := (mO g).view.slice rO0) f _)).trans ?_
  refine (shapeCast_shapeCast (s := S256x768) (t := S1x256x768) _ _ _).trans ?_
  exact shapeCast_self (s := S256x768) _ _

theorem keep_sub (g : Fin 2) : (mO g).view.setOn rO0.set ⊆ (slO g 0).view.set := by
  rw [slO_set, View.set_slice]; exact Finset.Subset.refl _

theorem keep_store_sub (g : Fin 2) : ((mO g).access rO0).setOn Finset.univ ⊆ (slO g 0).view.set := by
  rw [slO_set, View.setOn_univ]; exact Finset.Subset.refl _

theorem keepO_wp (R : PUnit.{1} → sProp 𝕄) (c : Dev nD) (g : Fin 2) (m : Memref sig .tc .vmem S256x768 .bf16) (f : Buf (Elt F) (m.view.loc (c : Thread nD τ)))
    (hf : m.view.readAt (Elt F) (Rect.unit (s := S256x768) ![0, 0] S256x768.size inb_S256x768_S256x768_0_0).toLoadRect f = I.wo g c) (K : P F) :
    iprop((m.view.loc (c : Thread nD τ) ↦{fullShare} f) ∗ garbO c g 0)
      ⊢ iprop(((m.view.loc (c : Thread nD τ) ↦{fullShare} f) ∗ slotO I c g 0 fullShare -∗ Wp c K R) -∗ Wp c (keepO g m K) R) := by
  unfold garbO keepO
  iintro ⟨Hm, ⟨%f0, Hs⟩⟩ HK
  iapply (wp_load 𝒱₀ (c : Thread nD τ) none Set.univ (m := m) (Finset.subset_univ _)) $$ Hm; iintro Hm
  rw [hf]
  iapply (wp_load 𝒱₀ (c : Thread nD τ) none Set.univ (m := mO g) (keep_sub g)) $$ [Hs]
  · iexact Hs
  iintro Hs
  iapply (wp_store 𝒱₀ (c : Thread nD τ) none Set.univ (m := mO g) (r := rO0) (Mk := Finset.univ) (S := (slO g 0).view.set) (keep_store_sub g)) $$ [Hs]
  · iexact Hs
  iintro Hs
  iapply HK
  isplitl [Hm]; · iexact Hm
  unfold slotO
  iexists (((mO g).access rO0).write (Elt F) f0
      (shapeCast S1x256x768 (shapeCast S256x768 (I.wo g c) shapeCasts_S256x768_S256x768) shapeCasts_S256x768_S1x256x768) Finset.univ)
  isplitr
  · ipureintro; exact (keep_read g f0 (I.wo g c)).trans (by rw [show (0 : Fin 8).val = 0 from rfl, own_zero])
  iexact Hs

/-! ## A hop -/

/-- What a ring's slot holds when its hop begins: of the first slot's projection block, that it was staged. -/
def cur1 (c : Dev nD) (g k : Fin 2) (s : Fin 8) : sProp 𝕄 :=
  match k with | 0 => if s.val = 0 then stgQ I c g fullShare else slotQ I c g s fullShare | 1 => slotO I c g s fullShare
theorem cur1_src (c : Dev nD) (g k : Fin 2) (j : Fin 7) : cur1 I c g k j.castSucc = src I c g k j fullShare := by
  match k with | 0 => rfl | 1 => rfl
theorem cur1_slot (c : Dev nD) (g k : Fin 2) (s : Fin 8) (h : s.val ≠ 0) : cur1 I c g k s = slot I c g k s fullShare := by
  match k with
  | 0 => exact if_neg h
  | 1 => rfl

/-- Before hop `s`. -/
def at' (c : Dev nD) (s : Fin 8) : sProp 𝕄 :=
  iprop(lanes (fun g k => cur1 I c g k s) ∗ ow c (owed c s.val) ∗ kv I c ∗ tab I c 0 (2 * s.val) ∗ tab I c 1 (2 * s.val))

/-- The reads of a hop's two projection blocks while their copies are under way. -/
theorem reads_wp (R : PUnit.{1} → sProp 𝕄) (c : Dev nD) (j : Fin 7) (m : Fin 2 → Memref sig .tc .vmem S768x256 .bf16) (hm : IsSrc I c j m)
    (ld : Fin 2 → (FVec F S768x256 .bf16 → P F) → P F)
    (hld : ∀ g w q K, rds (m g) c w q ⊢ iprop((rds (m g) c w q -∗ Wp c (K w) R) -∗ Wp c (ld g K) R))
    (K : FVec F S768x256 .bf16 → FVec F S768x256 .bf16 → P F) :
    lanes (fun g k => hold1 I c g k j)
      ⊢ iprop((lanes (fun g k => hold1 I c g k j) -∗ Wp c (K (I.wq 0 (own 0 j.val c)) (I.wq 1 (own 1 j.val c))) R)
        -∗ Wp c (ld 0 fun wa => ld 1 fun wb => K wa wb) R) := by
  unfold lanes hold1
  beta_reduce
  rw [hm 0, hm 1]
  iintro ⟨⟨Ha, H0⟩, H1, ⟨Hb, H2⟩, H3⟩ HK
  iapply (hld 0 _ _ _) $$ Ha
  iintro Ha
  iapply (hld 1 _ _ _) $$ Hb
  iintro Hb
  iapply HK
  isplitl [Ha H0]
  · isplitl [Ha]; · iexact Ha
    iexact H0
  isplitl [H1]; · iexact H1
  isplitr [H3]
  · isplitl [Hb]; · iexact Hb
    iexact H2
  iexact H3

section

variable (c : Dev nD) (j : Fin 7) (s s' : Fin 8) (K : P F)

/-- A hop's steps, whichever views its projection blocks are read through. -/
theorem hop_core (R : PUnit.{1} → sProp 𝕄) (hs : s = j.castSucc) (hs' : s' = j.succ)
    (m : Fin 2 → Memref sig .tc .vmem S768x256 .bf16) (he : ∀ g, (m g).view.WordExact) (hm : IsSrc I c j m)
    (ld : Fin 2 → (FVec F S768x256 .bf16 → P F) → P F)
    (hld : ∀ g w q K, rds (m g) c w q ⊢ iprop((rds (m g) c w q -∗ Wp c (K w) R) -∗ Wp c (ld g K) R)) :
    iprop(invs I κ ∗ levAts L lv ∗ at' I c s ∗ lanes (fun g k => todo1 c g k j))
      ⊢ iprop((at' I c s' ∗ lanes (fun g k => done1 I c g k j) -∗ Wp c K R)
        -∗ Wp c (sends c j m he <| ld 0 fun wa => ld 1 fun wb =>
          group c 0 s (qOf (k0_pay5 (I.x c)) wa) <| group c 1 s (qOf (k0_pay5 (I.x c)) wb) <| waits j m he K) R) := by
  subst hs hs'
  unfold at'
  have hcur : (lanes (fun g k => cur1 I c g k j.castSucc) : sProp 𝕄) = lanes (fun g k => src I c g k j fullShare) := by
    unfold lanes; simp only [cur1_src]
  have hnext : (lanes (fun g k => cur1 I c g k j.succ) : sProp 𝕄) = lanes (fun g k => slot I c g k j.succ fullShare) := by
    unfold lanes; simp only [cur1_slot I c _ _ j.succ (by rw [Fin.val_succ]; omega)]
  rw [hcur, hnext]
  iintro ⟨#HI, #Hlev, ⟨Hl, HO, Hkv, Ht0, Ht1⟩, Htd⟩ HK
  iapply (sends_wp I κ c j _ m he R hm) $$ [Hl HO Htd]
  · isplitr; · iexact HI
    isplitl [Hl]; · iexact Hl
    isplitl [Htd]; · iexact Htd
    iexact HO
  iintro ⟨Hh, HO⟩
  iapply (reads_wp I R c j m hm ld hld
    (fun wa wb => group c 0 j.castSucc (qOf (k0_pay5 (I.x c)) wa) <| group c 1 j.castSucc (qOf (k0_pay5 (I.x c)) wb) <| waits j m he K)) $$ Hh
  iintro Hh
  iapply (groups_wp I R c j.castSucc _) $$ [Hkv Ht0 Ht1]
  · isplitl [Hkv]; · iexact Hkv
    isplitl [Ht0] <;> iassumption
  iintro ⟨Hkv, Ht0, Ht1⟩
  iapply (waits_wp I κ c j _ m he R) $$ [Hh HO]
  · isplitr; · iexact HI
    isplitr; · iexact Hlev
    isplitl [Hh] <;> iassumption
  iintro ⟨Hd, Hn, HO⟩
  iapply HK
  isplitr [Hd]
  · isplitl [Hn]; · iexact Hn
    isplitl [HO]; · iexact HO
    isplitl [Hkv]; · iexact Hkv
    isplitl [Ht0]; · iexact Ht0
    iexact Ht1
  iexact Hd

theorem hop_wp (R : PUnit.{1} → sProp 𝕄) (hj : j.val ≠ 0) (hs : s = j.castSucc) (hs' : s' = j.succ) :
    iprop(invs I κ ∗ levAts L lv ∗ at' I c s ∗ lanes (fun g k => todo1 c g k j))
      ⊢ iprop((at' I c s' ∗ lanes (fun g k => done1 I c g k j) -∗ Wp c K R) -∗ Wp c (hop c (k0_pay5 (I.x c)) j K) R) := by
  subst hs
  exact hop_core I κ c j _ s' K R rfl hs' (fun g => slQ g j.castSucc) (fun g => exactQ g j.castSucc) (isSrc I c j hj)
    (fun g K => loadQs g j.castSucc K) fun g w q K => loadQs_wp c g R j.castSucc w q K

theorem hop0_wp (R : PUnit.{1} → sProp 𝕄) :
    iprop(invs I κ ∗ levAts L lv ∗ at' I c 0 ∗ lanes (fun g k => todo1 c g k 0))
      ⊢ iprop((at' I c 1 ∗ lanes (fun g k => done1 I c g k 0) -∗ Wp c K R) -∗ Wp c (hop0 c (k0_pay5 (I.x c)) K) R) :=
  hop_core I κ c 0 0 1 K R rfl rfl mQ0 exactQ0 (isSrc0 I c) (fun g K => loadQ0 g K) fun g w q K => loadQ0_wp c g R w q K

/-- The last hop. -/
theorem hopLast_wp (R : PUnit.{1} → sProp 𝕄) :
    at' I c 7 ⊢ iprop((lanes (fun g k => slot I c g k 7 fullShare) ∗ ow c 0 ∗ kv I c ∗ tab I c 0 16 ∗ tab I c 1 16 -∗ Wp c K R)
      -∗ Wp c (hopLast c (k0_pay5 (I.x c)) K) R) := by
  have hcur : (lanes (fun g k => cur1 I c g k 7) : sProp 𝕄) = lanes (fun g k => slot I c g k 7 fullShare) := by
    unfold lanes; simp only [cur1_slot I c _ _ (7 : Fin 8) (by decide)]
  unfold at' hopLast
  rw [hcur, show owed c (7 : Fin 8).val = 0 from owed_end c]
  unfold lanes
  beta_reduce
  rw [show slot I c 0 0 7 fullShare = rds (slQ 0 7) c (I.wq 0 (own 0 (7 : Fin 8).val c)) fullShare from rfl,
    show slot I c 1 0 7 fullShare = rds (slQ 1 7) c (I.wq 1 (own 1 (7 : Fin 8).val c)) fullShare from rfl]
  iintro ⟨⟨Ha, H1, Hb, H3⟩, HO, Hkv, Ht0, Ht1⟩ HK
  iapply (loadQs_wp c 0 R 7 (I.wq 0 (own 0 (7 : Fin 8).val c)) fullShare _) $$ [Ha]
  · iexact Ha
  iintro Ha
  iapply (loadQs_wp c 1 R 7 (I.wq 1 (own 1 (7 : Fin 8).val c)) fullShare _) $$ [Hb]
  · iexact Hb
  iintro Hb
  iapply (groups_wp I R c 7 _) $$ [Hkv Ht0 Ht1]
  · isplitl [Hkv]; · iexact Hkv
    isplitl [Ht0] <;> iassumption
  iintro ⟨Hkv, Ht0, Ht1⟩
  iapply HK
  isplitl [Ha H1 Hb H3]
  · isplitl [Ha]; · iexact Ha
    isplitl [H1]; · iexact H1
    isplitl [Hb]; · iexact Hb
    iexact H3
  isplitl [HO]; · iexact HO
  isplitl [Hkv]; · iexact Hkv
  isplitl [Ht0] <;> iassumption

end

/-! ## The result -/

/-- What a device leaves of its result. -/
def outI (c : Dev nD) : FVec F S2x512x768 .f32 := outV (tabI I c 0) (tabI I c 1) (WO I c 0) (WO I c 1)

theorem filled_all (c : Dev nD) (g : Fin 2) (f : (mC g).view.ty.Contents (Elt F)) (h : Filled I c g 16 f) : (mC g).view.read (Elt F) f = tabI I c g :=
  funext fun i => h i (by have := (sOf i).isLt; have := (bOf i).isLt; omega)

theorem finish_wp (R : PUnit.{1} → sProp 𝕄) (c : Dev nD) (K : P F) :
    iprop(((mO 0).view.loc (c : Thread nD τ) ↦{fullShare} VO I c 0) ∗ ((mO 1).view.loc (c : Thread nD τ) ↦{fullShare} VO I c 1)
        ∗ tab I c 0 16 ∗ tab I c 1 16 ∗ (∃ f : Buf (Elt F) (mOut.view.loc (c : Thread nD τ)), mOut.view.loc (c : Thread nD τ) ↦{fullShare} f))
      ⊢ iprop((((mO 0).view.loc (c : Thread nD τ) ↦{fullShare} VO I c 0) ∗ ((mO 1).view.loc (c : Thread nD τ) ↦{fullShare} VO I c 1)
        ∗ tab I c 0 16 ∗ tab I c 1 16 ∗ (mOut.view.loc (c : Thread nD τ) ↦{fullShare} outI I c) -∗ Wp c K R) -∗ Wp c (finish K) R) := by
  unfold tab finish
  iintro ⟨Ha, Hb, ⟨%fa, %ha, Hca⟩, ⟨%fb, %hb, Hcb⟩, ⟨%fo, Ho⟩⟩ HK
  iapply (wp_load 𝒱₀ (c : Thread nD τ) none Set.univ (m := mO 0) (Finset.subset_univ _)) $$ Ha; iintro Ha
  rw [show (mO 0).view.readAt (Elt F) (Rect.unit (s := S8x256x768) ![0, 0, 0] S8x256x768.size inb_S8x256x768_S8x256x768_0_0_0).toLoadRect (VO I c 0) = WO I c 0
    from Memref.readAt_unit_zero (Elt F) cc0_scratch1 hz3 _ _]
  iapply (wp_load 𝒱₀ (c : Thread nD τ) none Set.univ (m := mO 1) (Finset.subset_univ _)) $$ Hb; iintro Hb
  rw [show (mO 1).view.readAt (Elt F) (Rect.unit (s := S8x256x768) ![0, 0, 0] S8x256x768.size inb_S8x256x768_S8x256x768_0_0_0).toLoadRect (VO I c 1) = WO I c 1
    from Memref.readAt_unit_zero (Elt F) cc0_scratch3 hz3 _ _]
  iapply (wp_load 𝒱₀ (c : Thread nD τ) none Set.univ (m := mC 0) (Finset.subset_univ _)) $$ Hca; iintro Hca
  rw [show (mC 0).view.readAt (Elt F) (Rect.unit (s := S1024x2048) ![0, 0] S1024x2048.size inb_S1024x2048_S1024x2048_0_0).toLoadRect fa = tabI I c 0
    from (Memref.readAt_unit_zero (Elt F) cc0_scratch4 hz2 _ _).trans (filled_all I c 0 fa ha)]
  iapply (wp_load 𝒱₀ (c : Thread nD τ) none Set.univ (m := mC 1) (Finset.subset_univ _)) $$ Hcb; iintro Hcb
  rw [show (mC 1).view.readAt (Elt F) (Rect.unit (s := S1024x2048) ![0, 0] S1024x2048.size inb_S1024x2048_S1024x2048_0_0).toLoadRect fb = tabI I c 1
    from (Memref.readAt_unit_zero (Elt F) cc0_scratch5 hz2 _ _).trans (filled_all I c 1 fb hb)]
  iapply (wp_load 𝒱₀ (c : Thread nD τ) none Set.univ (m := mOut) (Finset.subset_univ _)) $$ Ho; iintro Ho
  iapply (wp_store 𝒱₀ (c : Thread nD τ) none Set.univ (m := mOut) (r := Rect.unit (s := S2x512x768) ![0, 0, 0] S2x512x768.size inb_S2x512x768_S2x512x768_0_0_0) (Mk := Finset.univ) (Finset.subset_univ _)) $$ Ho; iintro Ho
  ihave Ho := (Entails.of_eq (congrArg (fun w => (mOut.view.loc (c : Thread nD τ) ↦{fullShare} w : sProp 𝕄))
    (Memref.write_access_unit_zero_univ (Elt F) cc0_stg7_0 hz3 _ fo (outI I c)))) $$ Ho
  iapply HK
  isplitl [Ha]; · iexact Ha
  isplitl [Hb]; · iexact Hb
  isplitl [Hca]
  · iexists fa; isplitr; · (ipureintro; exact ha)
    iexact Hca
  isplitl [Hcb]
  · iexists fb; isplitr; · (ipureintro; exact hb)
    iexact Hcb
  iexact Ho

end Cert.KernelIdeal.St

end
-- ==== Proof.Ideal.Gather.lean ====
module

public import proofs.«01_k».proof.Proof.Ideal.Work

@[expose] public section

/-! # Hops, lanes and slots told one by one and together -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Ring, kind, hop. -/
abbrev Tri : Type := Fin 2 × Fin 2 × Fin 7
/-- A claim of every lane at every hop. -/
def fam (f : Fin 2 → Fin 2 → Fin 7 → sProp 𝕄) : sProp 𝕄 := bigSep (Finset.univ : Finset Tri) fun x => f x.1 x.2.1 x.2.2

theorem fam_sep (f f' : Fin 2 → Fin 2 → Fin 7 → sProp 𝕄) : (fam fun g k j => iprop(f g k j ∗ f' g k j)) = iprop(fam f ∗ fam f') :=
  bigSep_sep' _ _ _

theorem fam_rings (f : Fin 2 → Fin 2 → Fin 7 → sProp 𝕄) :
    fam f = iprop((bigSep (Finset.univ : Finset (Fin 2 × Fin 7)) fun p => f 0 p.1 p.2) ∗ bigSep (Finset.univ : Finset (Fin 2 × Fin 7)) fun p => f 1 p.1 p.2) := by
  unfold fam; rw [bigSep_univ_prod, bigSep_univ_two]

theorem kinds (f : Fin 2 → Fin 7 → sProp 𝕄) : (bigSep (Finset.univ : Finset (Fin 2 × Fin 7)) fun p => f p.1 p.2)
    = iprop(bigSep (Finset.univ : Finset (Fin 7)) (f 0) ∗ bigSep (Finset.univ : Finset (Fin 7)) (f 1)) := by
  rw [bigSep_univ_prod, bigSep_univ_two]

theorem pair_four (A B C D : sProp 𝕄) : iprop((A ∗ B) ∗ (C ∗ D)) = iprop(A ∗ B ∗ C ∗ D) := by
  have h : iprop((A ∗ B) ∗ (C ∗ D)) ⊢ iprop(A ∗ B ∗ C ∗ D) := by
    iintro ⟨⟨Ha, Hb⟩, Hc⟩
    isplitl [Ha]; · iexact Ha
    isplitl [Hb] <;> iassumption
  have h' : iprop(A ∗ B ∗ C ∗ D) ⊢ iprop((A ∗ B) ∗ (C ∗ D)) := by
    iintro ⟨Ha, Hb, Hc⟩
    isplitr [Hc]
    · isplitl [Ha] <;> iassumption
    iexact Hc
  exact BI.Entails.antisymm h h'

theorem fam_lanes (f : Fin 2 → Fin 2 → Fin 7 → sProp 𝕄) :
    fam f = lanes fun g k => bigSep (Finset.univ : Finset (Fin 7)) (f g k) := by
  rw [fam_rings, kinds (f 0), kinds (f 1)]
  unfold lanes
  beta_reduce
  exact pair_four _ _ _ _

theorem fam_hops (f : Fin 2 → Fin 2 → Fin 7 → sProp 𝕄) :
    fam f = bigSep (Finset.univ : Finset (Fin 7)) fun j => lanes fun g k => f g k j := by
  rw [fam_lanes]
  unfold lanes
  rw [bigSep_sep', bigSep_sep', bigSep_sep']

theorem seven (f : Fin 7 → sProp 𝕄) : bigSep (Finset.univ : Finset (Fin 7)) f
    = iprop(f 0 ∗ f ⟨1, by decide⟩ ∗ f ⟨2, by decide⟩ ∗ f ⟨3, by decide⟩ ∗ f ⟨4, by decide⟩ ∗ f ⟨5, by decide⟩ ∗ f ⟨6, by decide⟩) := by
  have h := bigSep_univ_eq_bigSepL [(0 : Fin 7), 1, 2, 3, 4, 5, 6] (by decide) (by decide) f
  exact h

theorem fin_first {n : ℕ} (f : Fin (n + 1) → sProp 𝕄) : bigSep (Finset.univ : Finset (Fin (n + 1))) f
    = iprop(f 0 ∗ bigSep (Finset.univ : Finset (Fin n)) fun j => f j.succ) := by
  rw [Fin.univ_succ, Finset.cons_eq_insert, bigSep_insert (by simp [Fin.succ_ne_zero]), bigSep_map]; rfl

theorem fin_last {n : ℕ} (f : Fin (n + 1) → sProp 𝕄) : bigSep (Finset.univ : Finset (Fin (n + 1))) f
    = iprop(f (Fin.last n) ∗ bigSep (Finset.univ : Finset (Fin n)) fun j => f j.castSucc) := by
  rw [Fin.univ_castSuccEmb, Finset.cons_eq_insert, bigSep_insert (by simp), bigSep_map]; rfl

/-- A lasting fact goes to each of many. -/
theorem with_all {J : Type} [DecidableEq J] {S : Finset J} {A : sProp 𝕄} [BI.Persistent A] {Φ Ψ : J → sProp 𝕄}
    (h : ∀ i ∈ S, iprop(A ∗ Φ i) ⊢ Ψ i) : iprop(A ∗ bigSep S Φ) ⊢ bigSep S Ψ :=
  (sep_mono_left (BI.bigSep_of_persistent S A)).trans ((Entails.of_eq (bigSep_sep' S _ _).symm).trans (bigSep_mono h))

variable (I : Inp F) (c : Dev nD) (g : Fin 2)

theorem slot_garb (s : Fin 8) (q : PosShare TreeShare) (hq : q = fullShare) : slotQ I c g s q ⊢ garbQ c g s := by
  subst hq
  unfold slotQ garbQ
  iintro ⟨%f, -, H⟩
  iexists f; iexact H

/-- The projection blocks' sources after all hops, with the last slot: the staged block, and the ring's slots from 1 on. -/
theorem gatherQ :
    iprop((bigSep (Finset.univ : Finset (Fin 7)) fun j => src I c g 0 j fullShare) ∗ slot I c g 0 7 fullShare)
      ⊢ iprop(stgQ I c g fullShare ∗ bigSep (Finset.univ : Finset (Fin 7)) fun j => garbQ c g j.succ) := by
  have h : ∀ s : Fin 8, slotQ I c g s fullShare ⊢ garbQ c g s := fun s => slot_garb I c g s _ rfl
  rw [fin_first (fun j : Fin 7 => src I c g 0 j fullShare), fin_last (fun j : Fin 7 => garbQ c g j.succ)]
  have h0 : src I c g 0 0 fullShare ⊢ stgQ I c g fullShare := by
    show (if (0 : Fin 7).val = 0 then stgQ I c g fullShare else slotQ I c g (0 : Fin 7).castSucc fullShare) ⊢ _
    rw [if_pos (by decide)]
  have hr : (bigSep (Finset.univ : Finset (Fin 6)) fun j => src I c g 0 j.succ fullShare) ⊢ (bigSep (Finset.univ : Finset (Fin 6)) fun j => garbQ c g j.castSucc.succ : sProp 𝕄) :=
    bigSep_mono fun j _ => (Entails.of_eq (src_Q I c g j.succ (by rw [Fin.val_succ]; omega) fullShare)).trans (h j.succ.castSucc)
  have h7 : slot I c g 0 7 fullShare ⊢ garbQ c g (Fin.last 6).succ := h 7
  iintro ⟨⟨H0, Hr⟩, H7⟩
  isplitl [H0]; · iapply h0; iexact H0
  isplitl [H7]; · iapply h7; iexact H7
  iapply hr; iexact Hr

/-- The output blocks': the ring's slots. -/
theorem gatherO :
    iprop((bigSep (Finset.univ : Finset (Fin 7)) fun j => src I c g 1 j fullShare) ∗ slot I c g 1 7 fullShare)
      ⊢ ((mO g).view.loc (c : Thread nD τ) ↦{fullShare} VO I c g) := by
  have h : iprop((bigSep (Finset.univ : Finset (Fin 7)) fun j => src I c g 1 j fullShare) ∗ slot I c g 1 7 fullShare)
      ⊢ (bigSep (Finset.univ : Finset (Fin 8)) fun s => slotO I c g s fullShare : sProp 𝕄) := by
    rw [fin_last (fun s : Fin 8 => slotO I c g s fullShare)]
    have h7 : slot I c g 1 7 fullShare ⊢ slotO I c g (Fin.last 7) fullShare := BI.Entails.refl _
    have hr : (bigSep (Finset.univ : Finset (Fin 7)) fun j => src I c g 1 j fullShare) ⊢ (bigSep (Finset.univ : Finset (Fin 7)) fun j => slotO I c g j.castSucc fullShare : sProp 𝕄) :=
      BI.Entails.refl _
    iintro ⟨H, H7⟩
    isplitl [H7]; · iapply h7; iexact H7
    iapply hr; iexact H
  exact h.trans (joinO I c g)

/-- A lane's positions when its hops are over. -/
def pos1 (k : Fin 2) (j : Fin 7) : sProp 𝕄 := iprop(atPos ER (cell c g k 1 j.succ) 1 ∅ 0 ∗ atPos ER (cell c g k 0 j.castSucc) 1 ∅ 0)

/-- All hops over. -/
theorem gather : iprop((fam fun g k j => fin1 I c g k j) ∗ lanes fun g k => slot I c g k 7 fullShare)
    ⊢ iprop((fam fun g k j => pos1 c g k j)
      ∗ (stgQ I c 0 fullShare ∗ bigSep (Finset.univ : Finset (Fin 7)) fun j => garbQ c 0 j.succ)
      ∗ (stgQ I c 1 fullShare ∗ bigSep (Finset.univ : Finset (Fin 7)) fun j => garbQ c 1 j.succ)
      ∗ ((mO 0).view.loc (c : Thread nD τ) ↦{fullShare} VO I c 0) ∗ ((mO 1).view.loc (c : Thread nD τ) ↦{fullShare} VO I c 1)) := by
  have h : (fam fun g k j => fin1 I c g k j : sProp 𝕄) = iprop((lanes fun g k => bigSep (Finset.univ : Finset (Fin 7)) fun j => src I c g k j fullShare)
      ∗ fam fun g k j => pos1 c g k j) := by
    rw [← fam_lanes]; exact fam_sep _ _
  rw [h]
  unfold lanes
  iintro ⟨⟨⟨Ha, Hb, Hc, Hd⟩, Hp⟩, ⟨Ha', Hb', Hc', Hd'⟩⟩
  isplitl [Hp]; · iexact Hp
  isplitl [Ha Ha']; · (iapply (gatherQ I c 0); isplitl [Ha] <;> iassumption)
  isplitl [Hc Hc']; · (iapply (gatherQ I c 1); isplitl [Hc] <;> iassumption)
  isplitl [Hb Hb']; · (iapply (gatherO I c 0); isplitl [Hb] <;> iassumption)
  iapply (gatherO I c 1); isplitl [Hd] <;> iassumption

end Cert.KernelIdeal.St

end
-- ==== Proof.Ideal.Run.lean ====
module

public import proofs.«01_k».proof.Proof.Ideal.Gather

@[expose] public section

/-! # A device's run -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (κ : GSem nD τ sig → ℕ)

/-- The staged inputs. -/
def ins (c : Dev nD) : sProp 𝕄 :=
  iprop((mX.view.loc (c : Thread nD τ) ↦{fullShare} I.x c) ∗ (mOA.view.loc (c : Thread nD τ) ↦{fullShare} I.wo 0 c)
    ∗ (mOB.view.loc (c : Thread nD τ) ↦{fullShare} I.wo 1 c) ∗ stgQ I c 0 fullShare ∗ stgQ I c 1 fullShare ∗ kv I c)

/-- What the work starts from, besides its rights; -/
def startW (c : Dev nD) : sProp 𝕄 :=
  iprop(ow c (owed c 0) ∗ ins I c ∗ garbO c 0 0 ∗ garbO c 1 0 ∗ tab I c 0 0 ∗ tab I c 1 0
    ∗ ∃ f : Buf (Elt F) (mOut.view.loc (c : Thread nD τ)), mOut.view.loc (c : Thread nD τ) ↦{fullShare} f)
/-- and what it leaves. -/
def endW (c : Dev nD) : sProp 𝕄 :=
  iprop(ow c 0 ∗ ins I c ∗ (fam fun g k j => pos1 c g k j)
    ∗ (bigSep (Finset.univ : Finset (Fin 7)) fun j => garbQ c 0 j.succ) ∗ (bigSep (Finset.univ : Finset (Fin 7)) fun j => garbQ c 1 j.succ)
    ∗ ((mO 0).view.loc (c : Thread nD τ) ↦{fullShare} VO I c 0) ∗ ((mO 1).view.loc (c : Thread nD τ) ↦{fullShare} VO I c 1)
    ∗ tab I c 0 16 ∗ tab I c 1 16 ∗ (mOut.view.loc (c : Thread nD τ) ↦{fullShare} outI I c))

theorem at_zero (c : Dev nD) :
    iprop(stgQ I c 0 fullShare ∗ stgQ I c 1 fullShare ∗ slotO I c 0 0 fullShare ∗ slotO I c 1 0 fullShare ∗ ow c (owed c 0) ∗ kv I c ∗ tab I c 0 0 ∗ tab I c 1 0)
      ⊢ at' I c 0 := by
  have h : ∀ g, stgQ I c g fullShare = cur1 I c g 0 0 := fun g => by
    show _ = if (0 : Fin 8).val = 0 then stgQ I c g fullShare else slotQ I c g 0 fullShare
    rw [if_pos (by decide)]
  unfold at' lanes
  beta_reduce
  have h' : ∀ g, slotO I c g 0 fullShare = cur1 I c g 1 0 := fun _ => rfl
  rw [h, h, h', h']
  iintro ⟨Ha, Hb, Hc, Hd, HO, Hkv, Ht0, Ht1⟩
  isplitl [Ha Hb Hc Hd]
  · isplitl [Ha]; · iexact Ha
    isplitl [Hc]; · iexact Hc
    isplitl [Hb]; · iexact Hb
    iexact Hd
  isplitl [HO]; · iexact HO
  isplitl [Hkv]; · iexact Hkv
  isplitl [Ht0]; · iexact Ht0
  iexact Ht1

/-- All hops but the last, sent and arrived. -/
theorem hops_wp (R : PUnit.{1} → sProp 𝕄) (c : Dev nD) (K : P F) :
    iprop(invs I κ ∗ levAts L lv ∗ at' I c 0 ∗ fam (F := F) fun g k j => todo1 c g k j)
      ⊢ iprop((at' I c 7 ∗ (bigSep (Finset.univ : Finset (Fin 7)) fun j => lanes fun g k => done1 I c g k j) -∗ Wp c K R)
        -∗ Wp c (hop0 c (k0_pay5 (I.x c)) <| hop c (k0_pay5 (I.x c)) ⟨1, by decide⟩ <| hop c (k0_pay5 (I.x c)) ⟨2, by decide⟩ <|
          hop c (k0_pay5 (I.x c)) ⟨3, by decide⟩ <| hop c (k0_pay5 (I.x c)) ⟨4, by decide⟩ <| hop c (k0_pay5 (I.x c)) ⟨5, by decide⟩ <|
          hop c (k0_pay5 (I.x c)) ⟨6, by decide⟩ K) R) := by
  rw [fam_hops, seven, seven]
  iintro ⟨#HI, #Hlev, Hat, ⟨H0, H1, H2, H3, H4, H5, H6⟩⟩ HK
  iapply (hop0_wp I κ c _ R) $$ [Hat H0]
  · isplitr; · iexact HI
    isplitr; · iexact Hlev
    isplitl [Hat] <;> iassumption
  iintro ⟨Hat, H0⟩
  iapply (hop_wp I κ c _ 1 2 _ R (by decide) (by decide) (by decide)) $$ [Hat H1]
  · isplitr; · iexact HI
    isplitr; · iexact Hlev
    isplitl [Hat] <;> iassumption
  iintro ⟨Hat, H1⟩
  iapply (hop_wp I κ c _ 2 3 _ R (by decide) (by decide) (by decide)) $$ [Hat H2]
  · isplitr; · iexact HI
    isplitr; · iexact Hlev
    isplitl [Hat] <;> iassumption
  iintro ⟨Hat, H2⟩
  iapply (hop_wp I κ c _ 3 4 _ R (by decide) (by decide) (by decide)) $$ [Hat H3]
  · isplitr; · iexact HI
    isplitr; · iexact Hlev
    isplitl [Hat] <;> iassumption
  iintro ⟨Hat, H3⟩
  iapply (hop_wp I κ c _ 4 5 _ R (by decide) (by decide) (by decide)) $$ [Hat H4]
  · isplitr; · iexact HI
    isplitr; · iexact Hlev
    isplitl [Hat] <;> iassumption
  iintro ⟨Hat, H4⟩
  iapply (hop_wp I κ c _ 5 6 _ R (by decide) (by decide) (by decide)) $$ [Hat H5]
  · isplitr; · iexact HI
    isplitr; · iexact Hlev
    isplitl [Hat] <;> iassumption
  iintro ⟨Hat, H5⟩
  iapply (hop_wp I κ c _ 6 7 _ R (by decide) (by decide) (by decide)) $$ [Hat H6]
  · isplitr; · iexact HI
    isplitr; · iexact Hlev
    isplitl [Hat] <;> iassumption
  iintro ⟨Hat, H6⟩
  iapply HK
  isplitl [Hat]; · iexact Hat
  isplitl [H0]; · iexact H0
  isplitl [H1]; · iexact H1
  isplitl [H2]; · iexact H2
  isplitl [H3]; · iexact H3
  isplitl [H4]; · iexact H4
  isplitl [H5]; · iexact H5
  iexact H6

/-- All departures. -/
theorem leave_wp (R : PUnit.{1} → sProp 𝕄) (c : Dev nD) (K : P F) :
    iprop(invs I κ ∗ (bigSep (Finset.univ : Finset (Fin 7)) fun j => lanes fun g k => done1 I c g k j) ∗ ow c 0)
      ⊢ iprop(((fam fun g k j => fin1 I c g k j) ∗ ow c 0 -∗ Wp c K R)
        -∗ Wp c (dones ⟨0, by decide⟩ mQ0 exactQ0 <|
  dones ⟨1, by decide⟩ (fun g => slQ g ⟨1, by decide⟩) (fun g => exactQ g ⟨1, by decide⟩) <|
  dones ⟨2, by decide⟩ (fun g => slQ g ⟨2, by decide⟩) (fun g => exactQ g ⟨2, by decide⟩) <|
  dones ⟨3, by decide⟩ (fun g => slQ g ⟨3, by decide⟩) (fun g => exactQ g ⟨3, by decide⟩) <|
  dones ⟨4, by decide⟩ (fun g => slQ g ⟨4, by decide⟩) (fun g => exactQ g ⟨4, by decide⟩) <|
  dones ⟨5, by decide⟩ (fun g => slQ g ⟨5, by decide⟩) (fun g => exactQ g ⟨5, by decide⟩) <|
  dones ⟨6, by decide⟩ (fun g => slQ g ⟨6, by decide⟩) (fun g => exactQ g ⟨6, by decide⟩) K) R) := by
  rw [fam_hops, seven, seven]
  iintro ⟨#HI, ⟨H0, H1, H2, H3, H4, H5, H6⟩, HO⟩ HK
  have h0 : (lanes fun g k => done1 I c g k 0) ⊢ (lanes fun g k => done1 I c g k ⟨0, by decide⟩ : sProp 𝕄) := BI.Entails.refl _
  ihave H0 := h0 $$ H0
  iapply (dones_wp I κ c _ _ mQ0 exactQ0 R (fun g => match g with | 0 => rfl | 1 => rfl)) $$ [H0 HO]
  · isplitr; · iexact HI
    isplitl [H0] <;> iassumption
  iintro ⟨H0, HO⟩
  iapply (dones_wp I κ c _ _ _ _ R (fun g => credit_Q g _)) $$ [H1 HO]
  · isplitr; · iexact HI
    isplitl [H1] <;> iassumption
  iintro ⟨H1, HO⟩
  iapply (dones_wp I κ c _ _ _ _ R (fun g => credit_Q g _)) $$ [H2 HO]
  · isplitr; · iexact HI
    isplitl [H2] <;> iassumption
  iintro ⟨H2, HO⟩
  iapply (dones_wp I κ c _ _ _ _ R (fun g => credit_Q g _)) $$ [H3 HO]
  · isplitr; · iexact HI
    isplitl [H3] <;> iassumption
  iintro ⟨H3, HO⟩
  iapply (dones_wp I κ c _ _ _ _ R (fun g => credit_Q g _)) $$ [H4 HO]
  · isplitr; · iexact HI
    isplitl [H4] <;> iassumption
  iintro ⟨H4, HO⟩
  iapply (dones_wp I κ c _ _ _ _ R (fun g => credit_Q g _)) $$ [H5 HO]
  · isplitr; · iexact HI
    isplitl [H5] <;> iassumption
  iintro ⟨H5, HO⟩
  iapply (dones_wp I κ c _ _ _ _ R (fun g => credit_Q g _)) $$ [H6 HO]
  · isplitr; · iexact HI
    isplitl [H6] <;> iassumption
  iintro ⟨H6, HO⟩
  iapply HK
  isplitr [HO]
  · isplitl [H0]; · iexact H0
    isplitl [H1]; · iexact H1
    isplitl [H2]; · iexact H2
    isplitl [H3]; · iexact H3
    isplitl [H4]; · iexact H4
    isplitl [H5]; · iexact H5
    iexact H6
  iexact HO

theorem work_wp (R : PUnit.{1} → sProp 𝕄) (c : Dev nD) (K : P F) :
    iprop(invs I κ ∗ levAts L lv ∗ startW I c ∗ fam (F := F) fun g k j => todo1 c g k j)
      ⊢ iprop((endW I c -∗ Wp c K R) -∗ Wp c (work c K) R) := by
  have hx : mX.view.readAt (Elt F) (Rect.unit (s := S2x512x768) ![0, 0, 0] S2x512x768.size inb_S2x512x768_S2x512x768_0_0_0).toLoadRect (I.x c) = I.x c :=
    Memref.readAt_unit_zero (Elt F) cc0_stg0_0 hz3 _ _
  unfold startW endW ins work
  iintro ⟨#HI, #Hlev, ⟨HO, ⟨Hx, Ha, Hb, Hqa, Hqb, Hkv⟩, Hga, Hgb, Hta, Htb, Hout⟩, Htd⟩ HK
  iapply (wp_load 𝒱₀ (c : Thread nD τ) none Set.univ (m := mX) (Finset.subset_univ _)) $$ Hx; iintro Hx
  rw [hx]
  iapply (keepO_wp I R c 0 mOA (I.wo 0 c) (Memref.readAt_unit_zero (Elt F) cc0_stg3_0 hz2 _ _) _) $$ [Ha Hga]
  · isplitl [Ha] <;> iassumption
  iintro ⟨Ha, Hga⟩
  iapply (keepO_wp I R c 1 mOB (I.wo 1 c) (Memref.readAt_unit_zero (Elt F) cc0_stg4_0 hz2 _ _) _) $$ [Hb Hgb]
  · isplitl [Hb] <;> iassumption
  iintro ⟨Hb, Hgb⟩
  ihave Hat := (at_zero I c) $$ [Hqa Hqb Hga Hgb HO Hkv Hta Htb]
  · isplitl [Hqa]; · iexact Hqa
    isplitl [Hqb]; · iexact Hqb
    isplitl [Hga]; · iexact Hga
    isplitl [Hgb]; · iexact Hgb
    isplitl [HO]; · iexact HO
    isplitl [Hkv]; · iexact Hkv
    isplitl [Hta] <;> iassumption
  iapply (hops_wp I κ R c _) $$ [Hat Htd]
  · isplitr; · iexact HI
    isplitr; · iexact Hlev
    isplitl [Hat] <;> iassumption
  iintro ⟨Hat, Hdn⟩
  iapply (hopLast_wp I c _ R) $$ Hat
  iintro ⟨Hl, HO, Hkv, Hta, Htb⟩
  iapply (leave_wp I κ R c _) $$ [Hdn HO]
  · isplitr; · iexact HI
    isplitl [Hdn] <;> iassumption
  iintro ⟨Hf, HO⟩
  ihave Hg := (gather I c) $$ [Hf Hl]
  · isplitl [Hf] <;> iassumption
  icases Hg with ⟨Hpos, ⟨Hqa, Hra⟩, ⟨Hqb, Hrb⟩, Hoa, Hob⟩
  iapply (finish_wp I R c _) $$ [Hoa Hob Hta Htb Hout]
  · isplitl [Hoa]; · iexact Hoa
    isplitl [Hob]; · iexact Hob
    isplitl [Hta]; · iexact Hta
    isplitl [Htb] <;> iassumption
  iintro ⟨Hoa, Hob, Hta, Htb, Hout⟩
  iapply HK
  isplitl [HO]; · iexact HO
  isplitl [Hx Ha Hb Hqa Hqb Hkv]
  · isplitl [Hx]; · iexact Hx
    isplitl [Ha]; · iexact Ha
    isplitl [Hb]; · iexact Hb
    isplitl [Hqa]; · iexact Hqa
    isplitl [Hqb] <;> iassumption
  isplitl [Hpos]; · iexact Hpos
  isplitl [Hra]; · iexact Hra
  isplitl [Hrb]; · iexact Hrb
  isplitl [Hoa]; · iexact Hoa
  isplitl [Hob]; · iexact Hob
  isplitl [Hta]; · iexact Hta
  isplitl [Htb] <;> iassumption

end Cert.KernelIdeal.St

end
-- ==== Proof.Ideal.Hand.lean ====
module

public import proofs.«01_k».proof.Proof.Ideal.Run

@[expose] public section

/-! # The body: the handshake, the work, and the cells closed behind them -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A device's DMA cells, all of them -/

/-- Ring, kind, departure or arrival, slot. -/
abbrev Quad : Type := Fin 2 × Fin 2 × Fin 2 × Fin 8
abbrev qcell (c : Dev nD) (x : Quad) : GSem nD τ sig := cell c x.1 x.2.1 x.2.2.1 x.2.2.2
def quads (f : Quad → sProp 𝕄) : sProp 𝕄 := bigSep (Finset.univ : Finset Quad) f
/-- The cells that no copy uses: the arrival at the first slot, the departure from the last. -/
def idles (f : Quad → sProp 𝕄) : sProp 𝕄 := bigSep (Finset.univ : Finset (Fin 2 × Fin 2)) fun q => iprop(f (q.1, q.2, 1, 0) ∗ f (q.1, q.2, 0, 7))

theorem swap_four (A B C D : sProp 𝕄) : iprop((A ∗ B) ∗ (C ∗ D)) = iprop((C ∗ A) ∗ (D ∗ B)) := by
  have h : ∀ A B C D : sProp 𝕄, iprop((A ∗ B) ∗ (C ∗ D)) ⊢ iprop((C ∗ A) ∗ (D ∗ B)) := by
    intro A B C D
    iintro ⟨⟨Ha, Hb⟩, Hc, Hd⟩
    isplitl [Ha Hc]
    · isplitl [Hc] <;> iassumption
    · isplitl [Hd] <;> iassumption
  have h' : ∀ A B C D : sProp 𝕄, iprop((C ∗ A) ∗ (D ∗ B)) ⊢ iprop((A ∗ B) ∗ (C ∗ D)) := by
    intro A B C D
    iintro ⟨⟨Hc, Ha⟩, Hd, Hb⟩
    isplitl [Ha Hb]
    · isplitl [Ha] <;> iassumption
    · isplitl [Hc] <;> iassumption
  exact BI.Entails.antisymm (h A B C D) (h' A B C D)

theorem quads_eq (f : Quad → sProp 𝕄) :
    quads f = iprop(idles f ∗ fam fun g k j => iprop(f (g, k, 1, j.succ) ∗ f (g, k, 0, j.castSucc))) := by
  have h1 : ∀ g k : Fin 2, (bigSep (Finset.univ : Finset (Fin 2 × Fin 8)) fun y => f (g, k, y))
      = iprop((f (g, k, 1, 0) ∗ f (g, k, 0, 7)) ∗ bigSep (Finset.univ : Finset (Fin 7)) fun j => iprop(f (g, k, 1, j.succ) ∗ f (g, k, 0, j.castSucc))) := by
    intro g k
    rw [bigSep_univ_prod, bigSep_univ_two, fin_last (fun s : Fin 8 => f (g, k, 0, s)), fin_first (fun s : Fin 8 => f (g, k, 1, s)), bigSep_sep']
    exact swap_four _ _ _ _
  unfold quads idles fam
  rw [bigSep_univ_prod, bigSep_univ_prod (fun q : Fin 2 × Fin 2 => iprop(f (q.1, q.2, 1, 0) ∗ f (q.1, q.2, 0, 7))),
    bigSep_univ_prod (fun x : Tri => iprop(f (x.1, x.2.1, 1, x.2.2.succ) ∗ f (x.1, x.2.1, 0, x.2.2.castSucc))), ← bigSep_sep']
  refine bigSep_congr fun g _ => ?_
  rw [bigSep_univ_prod, bigSep_univ_prod (fun x : Fin 2 × Fin 7 => iprop(f (g, x.1, 1, x.2.succ) ∗ f (g, x.1, 0, x.2.castSucc))), ← bigSep_sep']
  exact bigSep_congr fun k _ => h1 g k

variable (I : Inp F) (κ : GSem nD τ sig → ℕ) (c : Dev nD)

/-- Every arrival and departure cell of the device is open. -/
def rchd : sProp 𝕄 := quads fun x => reached ER (qcell c x) 0
instance rchd_persistent : BI.Persistent (rchd (F := F) c) := by unfold rchd quads; infer_instance
theorem rchd_at (x : Quad) : rchd (F := F) c ⊢ reached ER (qcell c x) 0 := by
  unfold rchd quads; exact bigSep_elim (Finset.mem_univ x)

/-! ## The handshake -/

/-- What a device gives a neighbour. -/
theorem pay_intro (g : Fin 2) :
    iprop(rchd c ∗ (bigSep (Finset.univ : Finset (Fin 7)) fun j => garbQ c g j.succ) ∗ bigSep (Finset.univ : Finset (Fin 7)) fun j => garbO c g j.succ)
      ⊢ (barPay (prv g c) g : sProp 𝕄) := by
  have h : iprop(rchd c ∗ bigSep (Finset.univ : Finset (Fin 2 × Fin 7)) fun p => garb c g p.1 p.2.succ)
      ⊢ (barPay (prv g c) g : sProp 𝕄) := by
    unfold barPay
    rw [nbr_prv]
    refine with_all fun p _ => ?_
    have ha := rchd_at (F := F) c (g, p.1, 1, p.2.succ)
    iintro ⟨#Hr, Hg⟩
    isplitl [Hg]; · iexact Hg
    iapply ha; iexact Hr
  rw [kinds (fun k j => garb c g k j.succ)] at h
  exact h

theorem pay_bar (g : Fin 2) :
    iprop(rchd c ∗ (bigSep (Finset.univ : Finset (Fin 7)) fun j => garbQ c g j.succ) ∗ bigSep (Finset.univ : Finset (Fin 7)) fun j => garbO c g j.succ)
      ⊢ (rd I).payload (bar (prv g c)) 0 g := pay_intro c g

/-- A lane's rights at a hop, from the launch. -/
def tok1 (g k : Fin 2) (j : Fin 7) : sProp 𝕄 :=
  iprop(dutyTok ER (cell (nbr g c) g k 1 j.succ) 0 0 ∗ dutyTok ER (cell c g k 0 j.castSucc) 0 0 ∗ cred (tallyAt (cell c g k 1 j.succ) () N))
def pos0 (g k : Fin 2) (j : Fin 7) : sProp 𝕄 := iprop(atPos ER (cell c g k 1 j.succ) 0 ∅ 0 ∗ atPos ER (cell c g k 0 j.castSucc) 0 ∅ 0)

theorem todo_intro :
    iprop(rchd c ∗ (barPay c 0 ∗ barPay c 1) ∗ (fam fun g k j => tok1 c g k j) ∗ fam fun g k j => pos0 c g k j)
      ⊢ (fam fun g k j => todo1 c g k j : sProp 𝕄) := by
  have hb : (iprop(barPay c 0 ∗ barPay c 1) : sProp 𝕄)
      = fam fun g k j => iprop(garb (nbr g c) g k j.succ ∗ reached ER (cell (nbr g c) g k 1 j.succ) 0) := by
    unfold barPay
    exact (fam_rings (F := F) fun g k j => iprop(garb (nbr g c) g k j.succ ∗ reached ER (cell (nbr g c) g k 1 j.succ) 0)).symm
  rw [hb, ← fam_sep, ← fam_sep]
  unfold fam
  refine with_all fun x _ => ?_
  have ha := rchd_at (F := F) c (x.1, x.2.1, 0, x.2.2.castSucc)
  unfold tok1 pos0 todo1
  iintro ⟨#Hr, ⟨Hg, Hr'⟩, ⟨Ht, Ht', Hc⟩, Ha, Ha'⟩
  isplitl [Hg]; · iexact Hg
  isplitl [Hr']; · iexact Hr'
  isplitl [Ht]; · iexact Ht
  isplitl [Ht']; · iexact Ht'
  isplitr; · iapply ha; iexact Hr
  isplitl [Hc]; · iexact Hc
  isplitl [Ha] <;> iassumption

/-! ## The cells closed -/

/-- The round a cell has come to. -/
def lastR (x : Quad) : ℕ := if paid (some x) then 1 else 0

theorem lastR_later (x : Quad) : ∀ r, lastR x ≤ r → (rd I).duties (qcell c x) r = ∅ := fun r hr => by
  by_cases h : paid (some x) = true
  · exact duties_later I _ r (by unfold lastR at hr; rw [if_pos h] at hr; exact hr)
  · obtain ⟨g, k, a, s⟩ := x
    exact duties_idle I c g k r a s (Bool.eq_false_iff.mpr h)

theorem idle_cells : (idles fun x => atPos ER (qcell c x) (lastR x) ∅ 0) = (idles fun x => atPos ER (qcell c x) 0 ∅ 0 : sProp 𝕄) := by
  have h : ∀ q : Fin 2 × Fin 2, lastR (q.1, q.2, 1, 0) = 0 ∧ lastR (q.1, q.2, 0, 7) = 0 := by unfold lastR; decide
  unfold idles
  exact bigSep_congr fun q _ => by beta_reduce; rw [(h q).1, (h q).2]

theorem used_cells : (fam fun g k j => iprop(atPos ER (qcell c (g, k, 1, j.succ)) (lastR (g, k, 1, j.succ)) ∅ 0
    ∗ atPos ER (qcell c (g, k, 0, j.castSucc)) (lastR (g, k, 0, j.castSucc)) ∅ 0)) = (fam fun g k j => pos1 c g k j : sProp 𝕄) := by
  have h : ∀ x : Tri, lastR (x.1, x.2.1, 1, x.2.2.succ) = 1 ∧ lastR (x.1, x.2.1, 0, x.2.2.castSucc) = 1 := by unfold lastR; decide
  unfold fam
  exact bigSep_congr fun x _ => by beta_reduce; rw [(h x).1, (h x).2]; rfl

theorem close_cells : iprop(invs I κ ∗ (idles fun x => atPos ER (qcell c x) 0 ∅ 0) ∗ fam fun g k j => pos1 c g k j)
    ⊢ (|={Set.univ}=> quads fun x => semVal (qcell c x) 0 : sProp 𝕄) := by
  rw [← idle_cells, ← used_cells]
  have h := quads_eq (F := F) fun x => atPos ER (qcell c x) (lastR x) ∅ 0
  rw [← h]
  have h1 : iprop(invs I κ ∗ quads fun x => atPos ER (qcell c x) (lastR x) ∅ 0)
      ⊢ bigSep (Finset.univ : Finset Quad) fun x => iprop(cellInv ER (rd I) (κ (qcell c x)) (qcell c x) ∗ atPos ER (qcell c x) (lastR x) ∅ 0) := by
    unfold quads
    refine with_all fun x _ => ?_
    have ha := invs_at I κ (c, some x)
    iintro ⟨#HI, H⟩
    isplitr; · iapply ha; iexact HI
    iexact H
  exact h1.trans (Rounds.cells_close ER (rd I) Finset.univ (qcell c) (fun x => κ (qcell c x)) (fun _ _ => Set.mem_univ _) (fun _ _ => id) lastR
    fun x _ => lastR_later I c x)

/-! ## The whole -/

/-- Every barrier cell is open. -/
def rbars : sProp 𝕄 := bigSep (Finset.univ : Finset (Dev nD)) fun d => reached ER (bar d) 0
instance rbars_persistent : BI.Persistent (rbars (F := F)) := by unfold rbars; infer_instance
theorem rbars_at (d : Dev nD) : rbars (F := F) ⊢ reached ER (bar d) 0 := by unfold rbars; exact bigSep_elim (Finset.mem_univ d)

/-- The device's rights when its cells are open. -/
def opened : sProp 𝕄 :=
  iprop(rbars ∗ rchd c ∗ atPos ER (bar c) 0 ∅ 0 ∗ cred (tallyAt (bar c) () 2) ∗ (dutyTok ER (bar (prv 0 c)) 0 0 ∗ dutyTok ER (bar (prv 1 c)) 0 1)
    ∗ (fam fun g k j => tok1 c g k j) ∗ quads fun x => atPos ER (qcell c x) 0 ∅ 0)

/-- A buffer that holds anything. -/
def some' {s : Shape} {e : EltTy} (m : Memref sig .tc .vmem s e) : sProp 𝕄 :=
  iprop(∃ f : Buf (Elt F) (m.view.loc (c : Thread nD τ)), m.view.loc (c : Thread nD τ) ↦{fullShare} f)
/-- The kernel's own buffers. -/
def scr : sProp 𝕄 := iprop(some' c (mQ 0) ∗ some' c (mO 0) ∗ some' c (mQ 1) ∗ some' c (mO 1) ∗ some' c (mC 0) ∗ some' c (mC 1))

def startS : sProp 𝕄 := iprop(ow c (O₀ c) ∗ ins I c ∗ scr c ∗ some' c mOut ∗ opened c)
def endS : sProp 𝕄 := iprop(ow c 0 ∗ ins I c ∗ scr c ∗ (mOut.view.loc (c : Thread nD τ) ↦{fullShare} outI I c) ∗ semVal (bar c) 0
  ∗ quads fun x => semVal (qcell c x) 0)

theorem tab_zero (g : Fin 2) : some' c (mC g) ⊢ tab I c g 0 := by
  unfold some' tab
  iintro ⟨%f, H⟩
  iexists f
  isplitr; · (ipureintro; intro i hi; omega)
  iexact H
theorem tab_some (g : Fin 2) (n : ℕ) : tab I c g n ⊢ some' c (mC g) := by
  unfold some' tab
  iintro ⟨%f, -, H⟩
  iexists f; iexact H
theorem cutQ (g : Fin 2) : (some' c (mQ g) : sProp 𝕄) ⊢ iprop(⌜Nonempty (Buf (Elt F) ((mQ g).view.loc (c : Thread nD τ)))⌝ ∗ garbQ c g 0
    ∗ bigSep (Finset.univ : Finset (Fin 7)) fun j => garbQ c g j.succ) := by
  have h := fun f => splitQ (F := F) c g f
  rw [fin_first (fun s : Fin 8 => garbQ c g s)] at h
  unfold some'
  iintro ⟨%f, H⟩
  isplitr; · (ipureintro; exact ⟨f⟩)
  iapply (h f); iexact H
theorem glueQ (g : Fin 2) (hn : Nonempty (Buf (Elt F) ((mQ g).view.loc (c : Thread nD τ)))) : iprop(garbQ c g 0
    ∗ bigSep (Finset.univ : Finset (Fin 7)) fun j => garbQ c g j.succ) ⊢ (some' c (mQ g) : sProp 𝕄) := by
  have h := joinQ (F := F) c g hn.some
  rw [fin_first (fun s : Fin 8 => garbQ c g s)] at h
  exact h
theorem cutO (g : Fin 2) : (some' c (mO g) : sProp 𝕄) ⊢ iprop(garbO c g 0 ∗ bigSep (Finset.univ : Finset (Fin 7)) fun j => garbO c g j.succ) := by
  have h := fun f => splitO (F := F) c g f
  rw [fin_first (fun s : Fin 8 => garbO c g s)] at h
  unfold some'
  iintro ⟨%f, H⟩
  iapply (h f); iexact H

theorem steps_wp (R : PUnit.{1} → sProp 𝕄) :
    iprop(invs I κ ∗ levAts L lv ∗ startS I c) ⊢ iprop((endS I c -∗ R ⟨⟩) -∗ Wp c steps R) := by
  unfold startS endS opened scr steps
  rw [quads_eq]
  simp only [wp_deviceId]
  rw [dev1_eq, dev2_eq]
  iintro ⟨#HI, #Hlev, HO, Hins, ⟨Hq0, Ho0, Hq1, Ho1, Hc0, Hc1⟩, Hout, #Hrb, #Hr, Hb, Hcb, ⟨Ht0, Ht1⟩, Htok, Hidle, Hpos⟩ HK
  unfold ow
  icases HO with ⟨%W, HO⟩
  ihave H := (cutQ c 0) $$ Hq0
  icases H with ⟨%hn0, Hg0, Hq0⟩
  ihave H := (cutQ c 1) $$ Hq1
  icases H with ⟨%hn1, Hg1, Hq1⟩
  ihave H := (cutO c 0) $$ Ho0
  icases H with ⟨Hp0, Ho0⟩
  ihave H := (cutO c 1) $$ Ho1
  icases H with ⟨Hp1, Ho1⟩
  iapply (Rounds.wp_signal 𝒱₀ ER (rd I) (c : Thread nD τ) none (dst := ((prv 0 c : Dev nD) : Thread nD τ)) (sem := barS) (r := 0) (d := 0) (κ := κ (bar (prv 0 c)))
      (by rw [duties_bar]; exact Finset.mem_univ _) rfl () (owed c 0 + tallyAt (bar (prv 1 c)) () 1) rfl) $$ [HO Ht0 Hq0 Ho0]
  · isplitr; · iapply (invs_at I κ (prv 0 c, none)); iexact HI
    isplitl [HO]; · iexact HO
    isplitl [Ht0]; · iexact Ht0
    isplitl [Hq0 Ho0]
    · iapply (pay_bar I c 0)
      isplitr; · iexact Hr
      isplitl [Hq0] <;> iassumption
    · iapply (rbars_at (prv 0 c)); iexact Hrb
  iintro HO
  iapply (Rounds.wp_signal 𝒱₀ ER (rd I) (c : Thread nD τ) none (dst := ((prv 1 c : Dev nD) : Thread nD τ)) (sem := barS) (r := 0) (d := 1) (κ := κ (bar (prv 1 c)))
      (by rw [duties_bar]; exact Finset.mem_univ _) rfl () (owed c 0) rfl) $$ [HO Ht1 Hq1 Ho1]
  · isplitr; · iapply (invs_at I κ (prv 1 c, none)); iexact HI
    isplitl [HO]; · iexact HO
    isplitl [Ht1]; · iexact Ht1
    isplitl [Hq1 Ho1]
    · iapply (pay_bar I c 1)
      isplitr; · iexact Hr
      isplitl [Hq1] <;> iassumption
    · iapply (rbars_at (prv 1 c)); iexact Hrb
  iintro HO
  iapply (Rounds.wp_wait_rest_token 𝒱₀ ER (rd I) (c : Thread nD τ) none (κ := κ (bar c))
      (wpE_semWait_eq 𝒱₀ (c : Thread nD τ) none Set.univ) (Set.mem_univ _) () (O := owed c 0) (W := W) (R := 0) (m := 0) (T := ∅)
      ((Nat.zero_add 2).trans (expect_bar I c).symm)) $$ [Hcb HO Hb]
  · isplitr; · iapply (invs_at I κ (c, none)); iexact HI
    isplitl [Hcb]; · iexact Hcb
    isplitl [HO]; · iexact HO
    isplitr; · iapply (mayWait c (.reg barS) 0 (by decide)); iexact Hlev
    iexact Hb
  iintro ⟨HO, Hb, -, Hpay⟩
  ihave Hpay := (Entails.of_eq (rest_bar I c)) $$ Hpay
  ihave Htd := (todo_intro c) $$ [Hpay Htok Hpos]
  · isplitr; · iexact Hr
    isplitl [Hpay]; · iexact Hpay
    isplitl [Htok]; · iexact Htok
    iexact Hpos
  iapply (work_wp I κ R c _) $$ [HO Hins Hp0 Hp1 Hc0 Hc1 Hout Htd]
  · isplitr; · iexact HI
    isplitr; · iexact Hlev
    isplitr [Htd]
    · unfold startW ow
      isplitl [HO]; · iexists _; iexact HO
      isplitl [Hins]; · iexact Hins
      isplitl [Hp0]; · iexact Hp0
      isplitl [Hp1]; · iexact Hp1
      isplitl [Hc0]; · iapply (tab_zero I c 0); iexact Hc0
      isplitl [Hc1]; · iapply (tab_zero I c 1); iexact Hc1
      unfold some'; iexact Hout
    iexact Htd
  unfold endW
  iintro ⟨HO, Hins, Hpos, Hq0, Hq1, Ho0, Ho1, Hc0, Hc1, Hout⟩
  have hret : (|={Set.univ}=> R ⟨⟩) ⊢ Wp c (.ret ⟨⟩) R := by
    unfold Wp; rw [wp_ret]
  iapply hret
  imod (close_cells I κ c) $$ [Hidle Hpos] with Hs
  · isplitr; · iexact HI
    isplitl [Hidle] <;> iassumption
  imod (Rounds.cell_close ER (rd I) (g := bar c) (κ := κ (bar c)) (Set.mem_univ _) id (R := 1) (duties_later I (bar c))) $$ [Hb] with Hb
  · isplitr; · iapply (invs_at I κ (c, none)); iexact HI
    iexact Hb
  imodintro
  iapply HK
  isplitl [HO]; · unfold ow; iexact HO
  isplitl [Hins]; · iexact Hins
  isplitl [Hg0 Hg1 Hq0 Hq1 Ho0 Ho1 Hc0 Hc1]
  · isplitl [Hg0 Hq0]; · (iapply (glueQ c 0 hn0); isplitl [Hg0] <;> iassumption)
    isplitl [Ho0]; · (unfold some'; iexists _; iexact Ho0)
    isplitl [Hg1 Hq1]; · (iapply (glueQ c 1 hn1); isplitl [Hg1] <;> iassumption)
    isplitl [Ho1]; · (unfold some'; iexists _; iexact Ho1)
    isplitl [Hc0]; · iapply (tab_some I c 0 16); iexact Hc0
    iapply (tab_some I c 1 16); iexact Hc1
  isplitl [Hout]; · iexact Hout
  isplitl [Hb]; · iexact Hb
  iexact Hs

end Cert.KernelIdeal.St

end
-- ==== Proof.Ideal.Region.lean ====
module

public import proofs.«01_k».proof.Proof.Ideal.Hand
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit.Geometry

@[expose] public section

/-! # The kernel's region: what it is entered with, what it leaves -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

/-- The contents of every device's buffers as the kernel starts. -/
abbrev Vals (F : FTy → Type) : Type := Dev nD → Valuation τ sig (Elt F)

variable (V : Vals F)

/-- What the kernel is given to stage. -/
def inp : Inp F where
  x c := V c (Proc.devRef .tc main_v19)
  wq g c := match g with | 0 => V c (Proc.devRef .tc main_v24) | 1 => V c (Proc.devRef .tc main_v25)
  wo g c := match g with | 0 => V c (Proc.devRef .tc main_v26) | 1 => V c (Proc.devRef .tc main_v27)
  k c := V c (Proc.devRef .tc main_v16)
  v c := V c (Proc.devRef .tc main_v18)

/-- The buffers when it is done: the result is written. -/
def fin' (c : Dev nD) : Valuation τ sig (Elt F) := Function.update (V c) (Proc.devRef .tc main_v28) (outI (inp V) c)

/-! ## The window's contents -/

abbrev adm : (p : Fin 1) → (pcfgs (F := F) p).Adm := fun p => (cfgs p).toPCfg_adm

/-- What enters the body beside the staged blocks. -/
def enter (c : Dev nD) : sProp 𝕄 := iprop((∃ κ, invs (inp V) κ) ∗ levAts L lv ∗ opened c ∗ scr c ∗ ∃ r, prngReg c r)
/-- What leaves it. -/
def leave (c : Dev nD) : sProp 𝕄 := iprop(semVal (bar c) 0 ∗ (quads fun x => semVal (qcell c x) 0) ∗ scr c ∗ ∃ r, prngReg c r)

def dat0 (c : Dev nD) : Dat τ (Elt F) Unit ℕ UU ℕ cfg0 c where
  A w := V c (Proc.devRef .tc (Pipeline.arrRef spec0 w))
  after w _ := match w with
    | ⟨0, _⟩ => (inp V).x c
    | ⟨1, _⟩ => (inp V).wq 0 c
    | ⟨2, _⟩ => (inp V).wq 1 c
    | ⟨3, _⟩ => (inp V).wo 0 c
    | ⟨4, _⟩ => (inp V).wo 1 c
    | ⟨5, _⟩ => (inp V).k c
    | ⟨6, _⟩ => (inp V).v c
    | ⟨7, _⟩ => outI (inp V) c
    | ⟨_ + 8, h⟩ => absurd h (by show ¬ _ < 8; omega)
  Φ t := if t.val = 0 then enter V c else leave c
  q _ := fullShare
  owed t := if t.val = 0 then O₀ c else 0

def pdats : (p : Fin 1) → (c : Dev nD) → Dat τ (Elt F) Unit ℕ UU ℕ (Pipeline.pin (pcfgs (F := F)) adm p) c
  | 0 => dat0 V

theorem owed_at_zero (c : Dev nD) : (dat0 V c).owed t0_0.castSucc = O₀ c := by
  show (if (t0_0.castSucc : Fin (cfg0.N + 1)).val = 0 then O₀ c else 0) = O₀ c; exact if_pos rfl
theorem owed_at_last (c : Dev nD) : (dat0 V c).owed t0_0.succ = 0 := by
  show (if (t0_0.succ : Fin (cfg0.N + 1)).val = 0 then O₀ c else 0) = 0; exact if_neg (Nat.succ_ne_zero _)
theorem Φ_at_zero (c : Dev nD) : (dat0 V c).Φ t0_0.castSucc = enter V c := by
  show (if (t0_0.castSucc : Fin (cfg0.N + 1)).val = 0 then enter V c else leave c) = _; exact if_pos rfl
theorem Φ_at_last (c : Dev nD) : (dat0 V c).Φ t0_0.succ = leave c := by
  show (if (t0_0.succ : Fin (cfg0.N + 1)).val = 0 then enter V c else leave c) = _; exact if_neg (Nat.succ_ne_zero _)
theorem last_eq : (Fin.last cfg0.N) = t0_0.succ := Fin.ext (show grid0.N = 0 + 1 from N_0)

/-! ## The body -/

/-- A whole buffer owned at contents. -/
abbrev stg (c : Dev nD) (b : Ref sig .tc) (X : b.ty.Idx → Elt F b.ty.elt) : sProp 𝕄 :=
  iprop(∃ f : Buf (Elt F) ((c : Thread nD τ).loc b), ⌜f = X⌝ ∗ ((c : Thread nD τ).loc b ↦{fullShare} f))
theorem owns_buf (c : Dev nD) (b : Ref sig .tc) (X : b.ty.Idx → Elt F b.ty.elt) :
    (owns (c : Thread nD τ) (Memref.whole b) fullShare X : sProp 𝕄) = stg c b X := by
  unfold owns; simp only [Memref.view_whole, View.read_whole, View.set_whole]

theorem stg_elim (c : Dev nD) (b : Ref sig .tc) (X : b.ty.Idx → Elt F b.ty.elt) : stg c b X ⊢ ((c : Thread nD τ).loc b ↦{fullShare} X : sProp 𝕄) := by
  iintro ⟨%f, %hf, H⟩
  subst hf; iexact H
theorem stg_intro (c : Dev nD) (b : Ref sig .tc) (X : b.ty.Idx → Elt F b.ty.elt) : ((c : Thread nD τ).loc b ↦{fullShare} X : sProp 𝕄) ⊢ stg c b X := by
  iintro H
  iexists X; isplitr; · (ipureintro; rfl)
  iexact H

/-- A staged projection block, as the rings name it. -/
theorem stgQ_eq0 (I : Inp F) (c : Dev nD) : stgQ I c 0 fullShare = stg c cc0_stg1_0 (I.wq 0 c) := by
  unfold stgQ
  show iprop(∃ f : Buf (Elt F) ((Memref.whole cc0_stg1_0).view.loc (c : Thread nD τ)), ⌜(Memref.whole cc0_stg1_0).view.read (Elt F) f = I.wq 0 c⌝
    ∗ ((Memref.whole cc0_stg1_0).view.loc (c : Thread nD τ) ↦[(Memref.whole cc0_stg1_0).view.set]{fullShare} f)) = _
  simp only [Memref.view_whole, View.read_whole, View.set_whole]
theorem stgQ_eq1 (I : Inp F) (c : Dev nD) : stgQ I c 1 fullShare = stg c cc0_stg2_0 (I.wq 1 c) := by
  unfold stgQ
  show iprop(∃ f : Buf (Elt F) ((Memref.whole cc0_stg2_0).view.loc (c : Thread nD τ)), ⌜(Memref.whole cc0_stg2_0).view.read (Elt F) f = I.wq 1 c⌝
    ∗ ((Memref.whole cc0_stg2_0).view.loc (c : Thread nD τ) ↦[(Memref.whole cc0_stg2_0).view.set]{fullShare} f)) = _
  simp only [Memref.view_whole, View.read_whole, View.set_whole]

/-- The staged inputs, buffer by buffer. -/
def staged (I : Inp F) (c : Dev nD) : sProp 𝕄 :=
  iprop(stg c cc0_stg0_0 (I.x c) ∗ stg c cc0_stg1_0 (I.wq 0 c) ∗ stg c cc0_stg2_0 (I.wq 1 c) ∗ stg c cc0_stg3_0 (I.wo 0 c)
    ∗ stg c cc0_stg4_0 (I.wo 1 c) ∗ stg c cc0_stg5_0 (I.k c) ∗ stg c cc0_stg6_0 (I.v c))
theorem staged_ins (I : Inp F) (c : Dev nD) : staged I c ⊢ ins I c := by
  unfold staged ins kv
  rw [stgQ_eq0, stgQ_eq1]
  iintro ⟨H0, H1, H2, H3, H4, H5, H6⟩
  isplitl [H0]; · iapply (stg_elim c cc0_stg0_0 (I.x c)); iexact H0
  isplitl [H3]; · iapply (stg_elim c cc0_stg3_0 (I.wo 0 c)); iexact H3
  isplitl [H4]; · iapply (stg_elim c cc0_stg4_0 (I.wo 1 c)); iexact H4
  isplitl [H1]; · iexact H1
  isplitl [H2]; · iexact H2
  isplitl [H5]; · iapply (stg_elim c cc0_stg5_0 (I.k c)); iexact H5
  iapply (stg_elim c cc0_stg6_0 (I.v c)); iexact H6
theorem ins_staged (I : Inp F) (c : Dev nD) : ins I c ⊢ staged I c := by
  unfold staged ins kv
  rw [stgQ_eq0, stgQ_eq1]
  iintro ⟨H0, H3, H4, H1, H2, H5, H6⟩
  isplitl [H0]; · iapply (stg_intro c cc0_stg0_0 (I.x c)); iexact H0
  isplitl [H1]; · iexact H1
  isplitl [H2]; · iexact H2
  isplitl [H3]; · iapply (stg_intro c cc0_stg3_0 (I.wo 0 c)); iexact H3
  isplitl [H4]; · iapply (stg_intro c cc0_stg4_0 (I.wo 1 c)); iexact H4
  isplitl [H5]; · iapply (stg_intro c cc0_stg5_0 (I.k c)); iexact H5
  iapply (stg_intro c cc0_stg6_0 (I.v c)); iexact H6

/-- What the body starts with at the one point: the launch's rights and every window's buffer; -/
def bodyPre (c : Dev nD) : sProp 𝕄 :=
  iprop(enter V c ∗ ow c (O₀ c) ∗ staged (inp V) c ∗ ∃ f, stg c cc0_stg7_0 f)
/-- what it ends with. -/
def bodyPost (c : Dev nD) : sProp 𝕄 :=
  iprop(leave c ∗ ow c 0 ∗ staged (inp V) c ∗ stg c cc0_stg7_0 (outI (inp V) c))

theorem body_wp (c : Dev nD) : bodyPre V c ⊢ Wp c (steps (F := F)) fun _ => bodyPost V c := by
  unfold bodyPre enter
  iintro ⟨⟨⟨%κ, #HI⟩, #HL, Hop, Hscr, Hp⟩, HO, Hin, ⟨%f, Hout⟩⟩
  iapply (steps_wp (inp V) κ c (fun _ => bodyPost V c)) $$ [Hop Hscr HO Hin Hout]
  · isplitr; · iexact HI
    isplitr; · iexact HL
    unfold startS
    isplitl [HO]; · iexact HO
    isplitl [Hin]; · iapply (staged_ins (inp V) c); iexact Hin
    isplitl [Hscr]; · iexact Hscr
    isplitl [Hout]
    · unfold some'; iexists f; iapply (stg_elim c cc0_stg7_0 f); iexact Hout
    iexact Hop
  unfold endS bodyPost leave
  iintro ⟨HO, Hin, Hscr, Hout, Hb, Hq⟩
  isplitl [Hscr Hb Hq Hp]
  · isplitl [Hb]; · iexact Hb
    isplitl [Hq]; · iexact Hq
    isplitl [Hscr] <;> iassumption
  isplitl [HO]; · iexact HO
  isplitl [Hin]; · iapply (ins_staged (inp V) c); iexact Hin
  iapply (stg_intro c cc0_stg7_0 (outI (inp V) c)); iexact Hout

theorem owesAt_of (c : Dev nD) (t : Fin (cfg0.N + 1)) (O : CellTallies nD τ sig Unit) (h : (dat0 V c).owed t = O) :
    ow c O ⊢ ((dat0 V c).owesAt () t : sProp 𝕄) := by
  unfold ow Dat.owesAt Pipeline.owesWithin Dat.bound
  rw [h]
  iintro ⟨%W, H⟩
  iexists W
  isplitr; · (ipureintro; exact fun _ _ => Or.inl trivial)
  iexact H
theorem of_owesAt (c : Dev nD) (t : Fin (cfg0.N + 1)) (O : CellTallies nD τ sig Unit) (h : (dat0 V c).owed t = O) :
    ((dat0 V c).owesAt () t : sProp 𝕄) ⊢ ow c O := by
  unfold ow Dat.owesAt Pipeline.owesWithin
  rw [h]
  iintro ⟨%W, -, H⟩
  iexists W; iexact H

set_option maxRecDepth 4000 in
/-- The windows' buffers as the pipeline hands them to the body. -/
def handed (c : Dev nD) : sProp 𝕄 :=
  iprop((dat0 V c).Φ t0_0.castSucc ∗ (dat0 V c).owesAt () t0_0.castSucc
    ∗ (∃ d, stg c cc0_stg0_0 ((dat0 V c).before (0 : Fin 8) t0_0 d)) ∗ (∃ d, stg c cc0_stg1_0 ((dat0 V c).before (1 : Fin 8) t0_0 d))
    ∗ (∃ d, stg c cc0_stg2_0 ((dat0 V c).before (2 : Fin 8) t0_0 d)) ∗ (∃ d, stg c cc0_stg3_0 ((dat0 V c).before (3 : Fin 8) t0_0 d))
    ∗ (∃ d, stg c cc0_stg4_0 ((dat0 V c).before (4 : Fin 8) t0_0 d)) ∗ (∃ d, stg c cc0_stg5_0 ((dat0 V c).before (5 : Fin 8) t0_0 d))
    ∗ (∃ d, stg c cc0_stg6_0 ((dat0 V c).before (6 : Fin 8) t0_0 d)) ∗ (∃ d, stg c cc0_stg7_0 ((dat0 V c).before (7 : Fin 8) t0_0 d)))
/-- The same after it. -/
def handedBack (c : Dev nD) : sProp 𝕄 :=
  iprop((dat0 V c).Φ t0_0.succ ∗ (dat0 V c).owesAt () t0_0.succ
    ∗ stg c cc0_stg0_0 ((inp V).x c) ∗ stg c cc0_stg1_0 ((inp V).wq 0 c) ∗ stg c cc0_stg2_0 ((inp V).wq 1 c) ∗ stg c cc0_stg3_0 ((inp V).wo 0 c)
    ∗ stg c cc0_stg4_0 ((inp V).wo 1 c) ∗ stg c cc0_stg5_0 ((inp V).k c) ∗ stg c cc0_stg6_0 ((inp V).v c) ∗ stg c cc0_stg7_0 (outI (inp V) c))

/-- A whole array's block at the one point is the array. -/
theorem block_start (s y : ℕ) : 0 * s + y = y := by rw [Nat.zero_mul, Nat.zero_add]
theorem before0 (c : Dev nD) (d) : (dat0 V c).before (0 : Fin 8) t0_0 d = (inp V).x c := by
  unfold Dat.before; rw [if_pos (fetch0_0 t0_0)]
  exact funext fun y => congrArg (V c (Proc.devRef .tc main_v19)) (funext fun a => Fin.ext (by blk_simp; exact block_start _ _))
theorem before1 (c : Dev nD) (d) : (dat0 V c).before (1 : Fin 8) t0_0 d = (inp V).wq 0 c := by
  unfold Dat.before; rw [if_pos (fetch0_1 t0_0)]
  exact funext fun y => congrArg (V c (Proc.devRef .tc main_v24)) (funext fun a => Fin.ext (by blk_simp; exact block_start _ _))
theorem before2 (c : Dev nD) (d) : (dat0 V c).before (2 : Fin 8) t0_0 d = (inp V).wq 1 c := by
  unfold Dat.before; rw [if_pos (fetch0_2 t0_0)]
  exact funext fun y => congrArg (V c (Proc.devRef .tc main_v25)) (funext fun a => Fin.ext (by blk_simp; exact block_start _ _))
theorem before3 (c : Dev nD) (d) : (dat0 V c).before (3 : Fin 8) t0_0 d = (inp V).wo 0 c := by
  unfold Dat.before; rw [if_pos (fetch0_3 t0_0)]
  exact funext fun y => congrArg (V c (Proc.devRef .tc main_v26)) (funext fun a => Fin.ext (by blk_simp; exact block_start _ _))
theorem before4 (c : Dev nD) (d) : (dat0 V c).before (4 : Fin 8) t0_0 d = (inp V).wo 1 c := by
  unfold Dat.before; rw [if_pos (fetch0_4 t0_0)]
  exact funext fun y => congrArg (V c (Proc.devRef .tc main_v27)) (funext fun a => Fin.ext (by blk_simp; exact block_start _ _))
theorem before5 (c : Dev nD) (d) : (dat0 V c).before (5 : Fin 8) t0_0 d = (inp V).k c := by
  unfold Dat.before; rw [if_pos (fetch0_5 t0_0)]
  exact funext fun y => congrArg (V c (Proc.devRef .tc main_v16)) (funext fun a => Fin.ext (by blk_simp; exact block_start _ _))
theorem before6 (c : Dev nD) (d) : (dat0 V c).before (6 : Fin 8) t0_0 d = (inp V).v c := by
  unfold Dat.before; rw [if_pos (fetch0_6 t0_0)]
  exact funext fun y => congrArg (V c (Proc.devRef .tc main_v18)) (funext fun a => Fin.ext (by blk_simp; exact block_start _ _))

theorem handed_pre (c : Dev nD) : handed V c ⊢ bodyPre V c := by
  unfold handed bodyPre staged
  rw [Φ_at_zero]
  simp only [before0, before1, before2, before3, before4, before5, before6]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  isplitl [HΦ]; · iexact HΦ
  isplitl [HO]; · iapply (of_owesAt V c _ _ (owed_at_zero V c)); iexact HO
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  iexists _; iexact H7
theorem post_handed (c : Dev nD) : bodyPost V c ⊢ handedBack V c := by
  unfold handedBack bodyPost staged
  rw [Φ_at_last]
  iintro ⟨HΦ, HO, ⟨H0, H1, H2, H3, H4, H5, H6⟩, H7⟩
  isplitl [HΦ]; · iexact HΦ
  isplitl [HO]; · iapply (owesAt_of V c _ _ (owed_at_last V c)); iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

theorem body_printed (c : Dev nD) : handed V c ⊢ Wp c
    (cc0__body mX (Memref.isWhole_whole _) mQA (Memref.isWhole_whole _) mQB (Memref.isWhole_whole _) mOA (Memref.isWhole_whole _)
      mOB (Memref.isWhole_whole _) mK (Memref.isWhole_whole _) mV (Memref.isWhole_whole _) mOut (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13 : P F)
    fun _ => handedBack V c := by
  rw [body_eq]
  exact (handed_pre V c).trans ((body_wp V c).trans (wp_mono frame _ _ fun _ => post_handed V c))

set_option maxRecDepth 100000 in
theorem body0 (c : Dev nD) : BodyObligation (dat0 V c) (defs₀ (F := F)) 𝒱₀ () Set.univ := fun t => by
  rw [fin_N0 t, bigSep_W0, bigSep_W0]
  simp only [owns_buf]
  exact body_printed V c

/-! ## The arrays before and after -/

theorem arr_start (c : Dev nD) (w : Fin 8) : (dat0 V c).arrAt w 0 = V c (Proc.devRef .tc (Pipeline.arrRef spec0 w)) := rfl
theorem arr_last (c : Dev nD) : (dat0 V c).arrAt (7 : Fin 8) cfg0.N = outI (inp V) c :=
  (dat0 V c).arrAt_eq_of_after_last (7 : Fin 8) t0_0 (by decide +kernel) (outI (inp V) c) fun _ => rfl
theorem fin_other (c : Dev nD) (b : Ref sig .tc) (h : b ≠ main_v28) : fin' V c (Proc.devRef .tc b) = V c (Proc.devRef .tc b) :=
  Function.update_of_ne (fun he => h (Proc.devRef_injective _ he)) _ _
theorem fin_out (c : Dev nD) : fin' V c (Proc.devRef .tc main_v28) = outI (inp V) c := Function.update_self _ _ _
theorem in_ne (w : Fin 8) (h : w ≠ 7) : Pipeline.arrRef spec0 w ≠ main_v28 := by revert w; decide
theorem in_win (w : Fin 8) (h : w ≠ 7) : (cfg0.win w).isOut = false := by revert w; decide
theorem arr_end (c : Dev nD) (w : Fin 8) : (dat0 V c).arrAt w cfg0.N = fin' V c (Proc.devRef .tc (Pipeline.arrRef spec0 w)) := by
  by_cases h : w = 7
  · subst h; exact (arr_last V c).trans (fin_out V c).symm
  · exact ((dat0 V c).arrAt_in w (in_win w h) cfg0.N).trans (fin_other V c _ (in_ne w h)).symm

/-! ## The region -/

theorem kitP : Pipeline.PLaunchFacts (nD := nD) (τ := τ) (pcfgs (F := F)) 0 := launch0.toP

/-- The kernel's own semaphores. -/
def osem (x : Quad) : SemLoc sig := .dma (smOf x.1 x.2.1 x.2.2.1 x.2.2.2)
theorem osem_facts : Pipeline.OwnSemFacts (pcfgs (F := F) 0).spec osem := (by decide +kernel : Pipeline.OwnSemFacts spec0 osem)

/-- The buffers no window is on. -/
abbrev others : Finset (DevRef τ sig) := Pipeline.ucRefs τ sig \ Pipeline.arrRefs spec0

/-- What the launch keeps for the region. -/
def kept (c : Dev nD) : sProp 𝕄 :=
  iprop((∃ κ, invs (inp V) κ) ∗ rbars ∗ atPos ER (bar c) 0 ∅ 0 ∗ cred (tallyAt (bar c) () 2) ∗ (dutyTok ER (bar (prv 0 c)) 0 0 ∗ dutyTok ER (bar (prv 1 c)) 0 1)
    ∗ (fam fun g k j => tok1 c g k j) ∗ quads fun x => openTok ER (qcell c x))
/-- With the cells open. -/
def ready (c : Dev nD) : sProp 𝕄 := iprop((∃ κ, invs (inp V) κ) ∗ levAts L lv ∗ opened c)

theorem quads_sep (f h : Quad → sProp 𝕄) : (quads fun x => iprop(f x ∗ h x)) = iprop(quads f ∗ quads h) := by unfold quads; exact bigSep_sep' _ _ _
theorem invs_quads (I : Inp F) (κ : GSem nD τ sig → ℕ) (c : Dev nD) : invs I κ ⊢ quads fun x => cellInv ER (rd I) (κ (qcell c x)) (qcell c x) := by
  unfold quads
  exact (BI.bigSep_of_persistent Finset.univ (invs I κ)).trans (bigSep_mono fun x _ => invs_at I κ (c, some x))
theorem open_cells (c : Dev nD) : iprop(kept V c ∗ Pipeline.ownSems0 osem c ∗ levAts L lv) ⊢ |={Set.univ}=> ready V c := by
  unfold kept ready opened
  iintro ⟨⟨⟨%κ, #HI⟩, Hr, Ha, Hc, Hd, Ht, Ho⟩, Hs, HL⟩
  have h := Rounds.cells_open ER (rd (inp V)) (Finset.univ : Finset Quad) (qcell c) (fun x => κ (qcell c x)) (Es := Set.univ) (fun _ _ => Set.mem_univ _)
  ihave HIq := (invs_quads (inp V) κ c) $$ HI
  imod h $$ [HIq Ho Hs] with Hq
  · isplitl [HIq Ho]
    · have h2 := quads_sep (fun x => cellInv ER (rd (inp V)) (κ (qcell c x)) (qcell c x)) (fun x => openTok ER (qcell c x))
      unfold quads at h2 ⊢
      rw [h2]
      isplitl [HIq] <;> iassumption
    unfold Pipeline.ownSems0 osem; iexact Hs
  ihave Hqq := (Entails.of_eq (quads_sep (fun x => atPos ER (qcell c x) 0 ∅ 0) (fun x => (reached ER (qcell c x) 0 : sProp 𝕄)))) $$ [Hq]
  · unfold quads; iexact Hq
  icases Hqq with ⟨Hq1, Hq2⟩
  imodintro
  isplitr; · iexists κ; iexact HI
  isplitl [HL]; · iexact HL
  isplitl [Hr]; · iexact Hr
  isplitl [Hq2]; · unfold rchd; iexact Hq2
  isplitl [Ha]; · iexact Ha
  isplitl [Hc]; · iexact Hc
  isplitl [Hd]; · iexact Hd
  isplitl [Ht]; · iexact Ht
  iexact Hq1

theorem scr_eq (c : Dev nD) : (Pipeline.scopedRest (Ix := Unit) (Name := ℕ) (U := UU) (Lvl := ℕ) (Val := Elt F) spec0 c : sProp 𝕄) = scr c := scopedRest0_eq c

theorem enter_intro (c : Dev nD) : iprop(Pipeline.scopedRest spec0 c ∗ (∃ r, prngReg c r) ∗ StableHlo.held (c.tc : Thread nD τ) ∅ (V c) ∗ ready V c)
    ⊢ enter V c := by
  rw [scr_eq]
  unfold enter ready
  iintro ⟨Hs, Hp, -, ⟨HI, HL, Ho⟩⟩
  isplitl [HI]; · iexact HI
  isplitl [HL]; · iexact HL
  isplitl [Ho]; · iexact Ho
  isplitl [Hs] <;> iassumption
theorem leave_elim (c : Dev nD) : leave c
    ⊢ iprop(Pipeline.scopedRest spec0 c ∗ (∃ r, prngReg c r) ∗ StableHlo.held (c.tc : Thread nD τ) ∅ (fin' V c) ∗ Pipeline.ownSems0 osem c ∗ semVal (bar c) 0) := by
  rw [scr_eq]
  unfold leave
  iintro ⟨Hb, Hq, Hs, Hp⟩
  isplitl [Hs]; · iexact Hs
  isplitl [Hp]; · iexact Hp
  isplitr; · unfold StableHlo.held; rw [BI.bigSep_empty]; iempintro
  isplitl [Hq]; · unfold Pipeline.ownSems0; unfold quads; iexact Hq
  iexact Hb

theorem O₀_pos {c : Dev nD} {a : GSem nD τ sig} {u : Unit} (h : 0 < O₀ c a u) : u ∈ L a ∧ 0 < lv a u := by
  unfold O₀ at h
  simp only [Pi.add_apply, Finsupp.add_apply] at h
  by_cases h1 : 0 < owed c 0 a u
  · obtain ⟨g, k, j, -, rfl⟩ := owed_pos h1
    exact ⟨Finset.mem_singleton_self _, by rw [lv_recv]; omega⟩
  by_cases h2 : 0 < (tallyAt (bar (prv 1 c)) () 1 : CellTallies nD τ sig Unit) a u
  · rw [tally_pos h2]; exact ⟨Finset.mem_singleton_self _, Nat.one_pos⟩
  by_cases h3 : 0 < (tallyAt (bar (prv 0 c)) () 1 : CellTallies nD τ sig Unit) a u
  · rw [tally_pos h3]; exact ⟨Finset.mem_singleton_self _, Nat.one_pos⟩
  omega

theorem share_eq (c : Dev nD) (w : Fin cfg0.W) : (dat0 V c).share w = fullShare := by unfold Dat.share; split <;> rfl

theorem lv_stage (w : Fin 8) (s : Fin (win0 w).nbuf) : lvS (.dma ((win0 w).sem s)) ≤ 0 := by revert s; revert w; decide +kernel

abbrev RegS (V : Vals F) : Type 1 := Pipeline.RegionSeg (pcfgs (F := F)) adm (pdats V) () defs₀ 𝒱₀ L lv 0

set_option backward.isDefEq.respectTransparency.types false in
def reg0 : RegS V :=
  Pipeline.RegionSeg.ofTalk (pcfgs (F := F)) adm (pdats V) () defs₀ 𝒱₀ L lv 0 osem osem_facts
    ∅ others (Finset.empty_subset _) kitP rfl (fun c => (body0 V c).loose)
    (fun _ => 0) O₀ (fun c => (owed_at_zero V c).trans (zero_add _).symm)
    (fun c => (congrArg (dat0 V c).owed last_eq).trans (owed_at_last V c)) (fun _ => rfl) (fun c w => share_eq V c w)
    V (fin' V) (fun c b hb => Function.update_of_ne (fun he => by
      subst he
      exact (Finset.mem_sdiff.mp (Finset.mem_sdiff.mp hb).1).2 (by decide)) _ _)
    (kept V) (fun c => semVal (bar c) 0) (ready V) (fun c => semVal (bar c) 0)
    (open_cells V)
    (fun c => (enter_intro V c).trans (Entails.of_eq (Φ_at_zero V c).symm))
    (fun c => (Entails.of_eq ((congrArg (dat0 V c).Φ last_eq).trans (Φ_at_last V c))).trans (leave_elim V c))
    (fun c => by iintro H; imodintro; iexact H)
    (fun _ => 0)
    ⟨fun _ w s => Finset.mem_singleton_self _, fun _ w s => lv_stage w s, fun c t a u h => by
      by_cases ht : t.val = 0
      · exact O₀_pos (c := c) (by rw [show (pdats V 0 c).owed t = O₀ c from if_pos ht] at h; exact h)
      · rw [show (pdats V 0 c).owed t = 0 from if_neg ht] at h; exact absurd h (Nat.lt_irrefl 0)⟩
    (fun _ => iprop(emp))
    (fun c w => arr_start V c w) (fun c w => arr_end V c w)

end Cert.KernelIdeal.St

end
-- ==== Proof.Ideal.Deal.lean ====
module

public import proofs.«01_k».proof.Proof.Ideal.Region

@[expose] public section

/-! # What the launch deals the devices -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells and the tokens -/

theorem bar_inj : Function.Injective (bar : Dev nD → GSem nD τ sig) := fun _ _ h => congrArg (fun g : GSem nD τ sig => g.1.1) h
theorem qcell_inj : Function.Injective (fun y : Dev nD × Quad => qcell y.1 y.2) := by
  rintro ⟨c, g, k, r, s⟩ ⟨c', g', k', r', s'⟩ h
  have hc : c = c' := congrArg (fun g : GSem nD τ sig => g.1.1) h
  have hs : (SemLoc.dma (smOf g k r s) : SemLoc sig) = .dma (smOf g' k' r' s') := congrArg Prod.snd h
  have hd := congrArg dec (SemLoc.dma.inj hs)
  rw [dec_smOf, dec_smOf] at hd
  exact Prod.ext hc (Option.some.inj hd)
def barCells : Finset (GSem nD τ sig) := Finset.univ.map ⟨bar, bar_inj⟩
def dmaCells : Finset (GSem nD τ sig) := Finset.univ.map ⟨fun y : Dev nD × Quad => qcell y.1 y.2, qcell_inj⟩
theorem bar_mem (c : Dev nD) : bar c ∈ barCells := Finset.mem_map.mpr ⟨c, Finset.mem_univ _, rfl⟩
theorem qcell_mem (c : Dev nD) (x : Quad) : qcell c x ∈ dmaCells := Finset.mem_map.mpr ⟨(c, x), Finset.mem_univ _, rfl⟩
theorem cells_apart : Disjoint barCells dmaCells := Finset.disjoint_left.mpr fun a h h' => by
  obtain ⟨c, -, rfl⟩ := Finset.mem_map.mp h
  obtain ⟨y, -, hy⟩ := Finset.mem_map.mp h'
  have hs : (SemLoc.dma (smOf y.2.1 y.2.2.1 y.2.2.2.1 y.2.2.2.2) : SemLoc sig) = .reg barS := congrArg Prod.snd hy
  cases hs

theorem barTok_inj : Function.Injective (fun y : Dev nD × Fin 2 => ((bar y.1, 0, y.2) : GSem nD τ sig × ℕ × Fin 2)) := fun _ _ h =>
  Prod.ext (bar_inj (congrArg Prod.fst h)) (congrArg (fun z : GSem nD τ sig × ℕ × Fin 2 => z.2.2) h)
theorem dmaTok_inj : Function.Injective (fun y : Dev nD × Quad => ((qcell y.1 y.2, 0, 0) : GSem nD τ sig × ℕ × Fin 2)) := fun _ _ h =>
  qcell_inj (congrArg Prod.fst h)
def barToks : Finset (GSem nD τ sig × ℕ × Fin 2) := Finset.univ.map ⟨_, barTok_inj⟩
def dmaToks : Finset (GSem nD τ sig × ℕ × Fin 2) := Finset.univ.map ⟨_, dmaTok_inj⟩
theorem toks_apart : Disjoint barToks dmaToks := Finset.disjoint_left.mpr fun a h h' => by
  obtain ⟨c, -, rfl⟩ := Finset.mem_map.mp h
  obtain ⟨y, -, hy⟩ := Finset.mem_map.mp h'
  exact Finset.disjoint_left.mp cells_apart (bar_mem c.1) (by rw [← show qcell y.1 y.2 = bar c.1 from congrArg Prod.fst hy]; exact qcell_mem _ _)

/-- The rounds' element at launch. -/
def rounds₀ : UT := launchOf barCells dmaCells (barToks ∪ dmaToks)

/-! ## Regrouping -/

theorem over_bars (Φ : GSem nD τ sig → sProp 𝕄) : bigSep barCells Φ = bigSep Finset.univ fun c : Dev nD => Φ (bar c) := by
  unfold barCells; rw [bigSep_map]; rfl
theorem over_dmas (Φ : GSem nD τ sig → sProp 𝕄) : bigSep dmaCells Φ = bigSep Finset.univ fun c : Dev nD => quads fun x => Φ (qcell c x) := by
  unfold dmaCells quads; rw [bigSep_map, bigSep_univ_prod]; rfl

theorem over_ring (g : Fin 2) (Φ : Dev nD → sProp 𝕄) : bigSep Finset.univ Φ = bigSep Finset.univ fun c => Φ (nbr g c) := bigSep_univ_equiv (ring g) Φ
theorem over_ring' (g : Fin 2) (Φ : Dev nD → sProp 𝕄) : bigSep Finset.univ Φ = bigSep Finset.univ fun c => Φ (prv g c) := bigSep_univ_equiv (ring g).symm Φ

/-- The handshake's tokens, each at the device that pays with it. -/
theorem bars_around : (bigSep barToks fun x => (dutyTok ER x.1 x.2.1 x.2.2 : sProp 𝕄))
    = bigSep Finset.univ fun c : Dev nD => iprop(dutyTok ER (bar (prv 0 c)) 0 0 ∗ dutyTok ER (bar (prv 1 c)) 0 1) := by
  have h : (bigSep barToks fun x => (dutyTok ER x.1 x.2.1 x.2.2 : sProp 𝕄))
      = bigSep Finset.univ fun c : Dev nD => iprop(dutyTok ER (bar c) 0 0 ∗ dutyTok ER (bar c) 0 1) := by
    unfold barToks; rw [bigSep_map, bigSep_univ_prod]
    exact bigSep_congr fun c _ => bigSep_univ_two _
  rw [h, bigSep_sep', bigSep_sep', over_ring' 0 fun c => dutyTok ER (bar c) 0 0, over_ring' 1 fun c => dutyTok ER (bar c) 0 1]

/-- A family over the devices, each term one step along its ring. -/
theorem fam_around (f : Dev nD → Fin 2 → Fin 2 → Fin 7 → sProp 𝕄) :
    (bigSep Finset.univ fun c : Dev nD => fam fun g k j => f c g k j) = bigSep Finset.univ fun c : Dev nD => fam fun g k j => f (nbr g c) g k j := by
  unfold fam
  rw [Pipeline.bigSep_univ_comm, Pipeline.bigSep_univ_comm fun (c : Dev nD) (x : Tri) => f (nbr x.1 c) x.1 x.2.1 x.2.2]
  exact bigSep_congr fun x _ => over_ring x.1 fun c => f c x.1 x.2.1 x.2.2

/-- The copies' tokens, each at the device that copies. -/
theorem dmas_around : (bigSep dmaToks fun x => (dutyTok ER x.1 x.2.1 x.2.2 : sProp 𝕄))
    ⊢ bigSep Finset.univ fun c : Dev nD => fam fun g k j => iprop(dutyTok ER (cell (nbr g c) g k 1 j.succ) 0 0 ∗ dutyTok ER (cell c g k 0 j.castSucc) 0 0) := by
  have h : (bigSep dmaToks fun x => (dutyTok ER x.1 x.2.1 x.2.2 : sProp 𝕄))
      = bigSep Finset.univ fun c : Dev nD => quads fun x => dutyTok ER (qcell c x) 0 0 := by
    unfold dmaToks quads; rw [bigSep_map, bigSep_univ_prod]; rfl
  have h1 : ∀ c : Dev nD, (quads fun x => (dutyTok ER (qcell c x) 0 0 : sProp 𝕄))
      ⊢ iprop((fam fun g k j => dutyTok ER (cell c g k 1 j.succ) 0 0) ∗ fam fun g k j => dutyTok ER (cell c g k 0 j.castSucc) 0 0) := by
    intro c
    rw [quads_eq, fam_sep]
    iintro ⟨-, H⟩
    iexact H
  have h2 : (bigSep Finset.univ fun c : Dev nD => fam fun g k j => iprop(dutyTok ER (cell (nbr g c) g k 1 j.succ) 0 0 ∗ dutyTok ER (cell c g k 0 j.castSucc) 0 0) : sProp 𝕄)
      = bigSep Finset.univ fun c : Dev nD => iprop((fam fun g k j => dutyTok ER (cell c g k 1 j.succ) 0 0) ∗ fam fun g k j => dutyTok ER (cell c g k 0 j.castSucc) 0 0) := by
    rw [bigSep_sep', fam_around fun c g k j => dutyTok ER (cell c g k 1 j.succ) 0 0, ← bigSep_sep']
    exact bigSep_congr fun c _ => fam_sep _ _
  rw [h, h2]
  exact bigSep_mono fun c _ => h1 c

/-! ## The credit -/

theorem cred_ring (g : Fin 2) (sm : SemLoc sig) (n : ℕ) (c : Dev nD) :
    Pipeline.launchCred (fun d => tallyAt ((nbr g d : Thread nD τ), sm) () n) c ⊢ (cred (tallyAt ((c : Thread nD τ), sm) () n) : sProp 𝕄) :=
  Pipeline.launchCred_tallyAt sm (nbr g) (prv g) (nbr_prv g) (prv_nbr g) () n c
theorem cred_bar (g : Fin 2) (c : Dev nD) :
    Pipeline.launchCred (fun d => tallyAt (bar (prv g d)) () 1) c ⊢ (cred (tallyAt (bar c) () 1) : sProp 𝕄) :=
  Pipeline.launchCred_tallyAt (.reg barS) (prv g) (nbr g) (prv_nbr g) (nbr_prv g) () 1 c

theorem cred_due (j : Fin 7) (c : Dev nD) :
    Pipeline.launchCred (fun d => due d j) c ⊢ (lanes fun g k => cred (tallyAt (cell c g k 1 j.succ) () N) : sProp 𝕄) := by
  unfold due
  rw [Pipeline.launchCred_add, Pipeline.launchCred_add, Pipeline.launchCred_add]
  unfold lanes
  iintro ⟨⟨⟨H11, H10⟩, H01⟩, H00⟩
  isplitl [H00]; · iapply (cred_ring 0 (.dma (smOf 0 0 1 j.succ)) N c); iexact H00
  isplitl [H01]; · iapply (cred_ring 0 (.dma (smOf 0 1 1 j.succ)) N c); iexact H01
  isplitl [H10]; · iapply (cred_ring 1 (.dma (smOf 1 0 1 j.succ)) N c); iexact H10
  iapply (cred_ring 1 (.dma (smOf 1 1 1 j.succ)) N c); iexact H11

theorem creds (c : Dev nD) : Pipeline.launchCred O₀ c
    ⊢ (iprop(cred (tallyAt (bar c) () 2) ∗ fam fun g k j => cred (tallyAt (cell c g k 1 j.succ) () N)) : sProp 𝕄) := by
  have hO : (O₀ : Dev nD → CellTallies nD τ sig Unit) = fun d => (∑ j ∈ from' 0, due d j) + tallyAt (bar (prv 1 d)) () 1 + tallyAt (bar (prv 0 d)) () 1 :=
    funext fun d => rfl
  rw [hO, Pipeline.launchCred_add, Pipeline.launchCred_add, Pipeline.launchCred_sum, show from' 0 = Finset.univ from by decide, fam_hops]
  iintro ⟨⟨Hd, H1⟩, H0⟩
  isplitl [H1 H0]
  · rw [← tallyAt_add (bar c) () 1 1]
    iapply (cred_add _ _).2
    isplitl [H1]
    · iapply (cred_bar 1 c); iexact H1
    · iapply (cred_bar 0 c); iexact H0
  · have h : (bigSep Finset.univ fun j : Fin 7 => Pipeline.launchCred (fun d => due d j) c)
        ⊢ (bigSep Finset.univ fun j : Fin 7 => lanes fun g k => cred (tallyAt (cell c g k 1 j.succ) () N) : sProp 𝕄) := bigSep_mono fun j _ => cred_due j c
    iapply h; iexact Hd

/-! ## The deal -/

variable (V : Vals F)

theorem invs_of (I : Inp F) (κ : GSem nD τ sig → ℕ) : (bigSep (barCells ∪ dmaCells) fun g => cellInv ER (rd I) (κ g) g) ⊢ invs I κ := by
  unfold invs
  refine (BI.bigSep_of_persistent Finset.univ _).trans (bigSep_mono fun x _ => ?_)
  rcases x with ⟨c, x⟩
  match x with
  | none => exact bigSep_elim (Finset.mem_union_left _ (bar_mem c))
  | some x => exact bigSep_elim (Finset.mem_union_right _ (qcell_mem c x))

theorem deal : (iprop((bigSep Finset.univ fun c : Dev nD => iprop(semVal (bar c) 0 ∗ Pipeline.launchCred O₀ c)) ∗ BI.own (ER rounds₀)) : sProp 𝕄)
    ⊢ |={Set.univ}=> bigSep Finset.univ (kept V) := by
  have hall : ∀ c ∈ (Finset.univ : Finset (Dev nD)), iprop(((∃ κ, invs (inp V) κ) ∗ rbars) ∗ (atPos ER (bar c) 0 ∅ 0 ∗ Pipeline.launchCred O₀ c
      ∗ (dutyTok ER (bar (prv 0 c)) 0 0 ∗ dutyTok ER (bar (prv 1 c)) 0 1)
      ∗ (fam fun g k j => iprop(dutyTok ER (cell (nbr g c) g k 1 j.succ) 0 0 ∗ dutyTok ER (cell c g k 0 j.castSucc) 0 0))
      ∗ quads fun x => openTok ER (qcell c x))) ⊢ kept V c := by
    intro c _
    have ht : (fam fun g k j => tok1 (F := F) c g k j)
        = iprop((fam fun g k j => iprop(dutyTok ER (cell (nbr g c) g k 1 j.succ) 0 0 ∗ dutyTok ER (cell c g k 0 j.castSucc) 0 0))
          ∗ fam fun g k j => cred (tallyAt (cell c g k 1 j.succ) () N)) := by
      rw [← fam_sep]
      unfold fam tok1
      exact bigSep_congr fun x _ => BI.equiv_iff.mp ⟨BI.sep_assoc', BI.sep_assoc⟩
    unfold kept
    rw [ht]
    iintro ⟨⟨HI, Hr⟩, Ha, Hc, Hb, Hd, Ho⟩
    ihave Hcc := (creds c) $$ Hc
    icases Hcc with ⟨Hc1, Hc2⟩
    isplitl [HI]; · iexact HI
    isplitl [Hr]; · iexact Hr
    isplitl [Ha]; · iexact Ha
    isplitl [Hc1]; · iexact Hc1
    isplitl [Hb]; · iexact Hb
    isplitl [Hd Hc2]
    · isplitl [Hd] <;> iassumption
    iexact Ho
  have hgo := with_all hall
  rw [bigSep_sep', bigSep_sep', bigSep_sep', bigSep_sep', bigSep_sep'] at hgo
  rw [bigSep_sep']
  iintro ⟨⟨Hv, Hc⟩, Hu⟩
  have htok : (bigSep (barToks ∪ dmaToks) fun x => (dutyTok ER x.1 x.2.1 x.2.2 : sProp 𝕄))
      = iprop((bigSep barToks fun x => dutyTok ER x.1 x.2.1 x.2.2) ∗ bigSep dmaToks fun x => dutyTok ER x.1 x.2.1 x.2.2) := bigSep_union toks_apart
  have hfund := Rounds.fund_launch (Es := Set.univ) (Name := ℕ) ER (rd (inp V)) cells_apart (fun g _ h => h) (barToks ∪ dmaToks)
  rw [over_bars, over_bars, over_bars, over_dmas, htok, bars_around] at hfund
  imod hfund $$ [Hv Hu] with ⟨%κ, -, HI, Hr, Hat, Hopen, Hb, Hd⟩
  · isplitl [Hv]; · iexact Hv
    unfold rounds₀; iexact Hu
  ihave HI := (invs_of (inp V) κ) $$ HI
  ihave Hd := dmas_around $$ Hd
  imodintro
  iapply hgo
  isplitl [HI Hr]
  · isplitl [HI]; · iexists κ; iexact HI
    unfold rbars; iexact Hr
  isplitl [Hat]; · iexact Hat
  isplitl [Hc]; · iexact Hc
  isplitl [Hb]; · iapply (Entails.of_eq (bigSep_sep' _ _ _)); iexact Hb
  isplitl [Hd] <;> iassumption

end Cert.KernelIdeal.St

end
-- ==== Proof.Ideal.Start.lean ====
module

public import proofs.«01_k».proof.Proof.Ideal.Deal
public import Idealize.ShloMosaic.Lib.Quiescent
public import Idealize.ShloMosaic.Lib.Pipeline.Kit
public import Idealize.ShloMosaic.Lib.Tactic

@[expose] public section

/-! # The whole program's run -/

noncomputable section

namespace Cert.KernelIdeal.St

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The buffers at launch, -/
def V₀ : Vals F := fun c b => m (c, b)
/-- and as the kernel starts. -/
def V₁ : Vals F := fun c => StableHlo.after (hostOps0 c) (V₀ m c)

theorem ops_sub (c : Dev nD) : ∀ op ∈ (hostOps0 (F := F) c), op.bufs ⊆ Pipeline.ucRefs τ sig := fun op h =>
  Pipeline.sub_ucRefs op (List.forall_iff_forall_mem.mp (hostOps0_sub c) op h)
theorem ops_fresh (c : Dev nD) : ∀ op ∈ (hostOps0 (F := F) c), op.fresh = ∅ :=
  List.forall_iff_forall_mem.mp (by unfold hostOps0; simp only [List.forall_cons]; repeat' constructor)

/-- What rides beside the buffers while the host's statements run. -/
def rides (c : Dev nD) : sProp 𝕄 := iprop(kept (V₁ m) c ∗ (∃ r, prngReg c r) ∗ ∃ W, owes (c : Thread nD τ) (O₀ c) W)

def seg0 (c : Dev nD) : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps0 c) (ops_sub c) (ops_fresh c) (V₀ m) (rides m)
def segs (c : Dev nD) : List (Pipeline.Seg (pcfgs (F := F)) adm (pdats (V₁ m)) () defs₀ 𝒱₀ L lv) := [.host (seg0 m c), .region (reg0 (V₁ m))]

set_option maxRecDepth 20000 in
theorem main_wp (c : Dev nD) (Q : PUnit → sProp 𝕄) :
    wp frame (wpE defs 𝒱₀.lift (c.tc : Thread nD τ) none) Set.univ (Pipeline.Seg.run (segs m c)) Q
      ⊢ wp frame (wpE defs 𝒱₀.lift (c.tc : Thread nD τ) none) Set.univ (main (F := F) c) Q := by
  rw [main_chain c, Pipeline.Seg.run_eq_chain]
  simp only [segs, List.map, Pipeline.Seg.prog, seg0, Pipeline.HostSeg.ofOps]
  exact .rfl

/-! ## The thread states -/

def T₀ (c : Dev nD) : sProp 𝕄 := iprop(StableHlo.held (c : Thread nD τ) (Pipeline.ucRefs τ sig) (V₀ m c) ∗ rides m c)
def Tₙ (c : Dev nD) : sProp 𝕄 := iprop(StableHlo.held (c : Thread nD τ) (Pipeline.ucRefs τ sig) (fin' (V₁ m) c) ∗ semVal (bar c) 0)

theorem held_split (c : Dev nD) (W : Valuation τ sig (Elt F)) :
    (StableHlo.held (c : Thread nD τ) (Pipeline.ucRefs τ sig) W : sProp 𝕄)
      = iprop(StableHlo.held (c : Thread nD τ) (Pipeline.arrRefs spec0) W ∗ StableHlo.held (c : Thread nD τ) others W) :=
  StableHlo.held_sub_split c.tc (Pipeline.arrRefs_sub_ucRefs spec0 winFacts0.arr_unscoped) W

theorem seg0_pre (c : Dev nD) : T₀ m c ⊢ (seg0 m c).pre c := .rfl
theorem seg0_reg0 (c : Dev nD) : (seg0 m c).post c ⊢ (reg0 (V₁ m)).pre c := by
  show iprop(StableHlo.held (c : Thread nD τ) (Pipeline.ucRefs τ sig) (V₁ m c) ∗ rides m c)
    ⊢ iprop(StableHlo.held (c : Thread nD τ) (Pipeline.arrRefs spec0) (V₁ m c) ∗ (∃ r, prngReg c r) ∗ (StableHlo.held (c : Thread nD τ) others (V₁ m c) ∗ BI.emp)
      ∗ kept (V₁ m) c ∗ ∃ W, owes (c : Thread nD τ) (0 + O₀ c) W)
  rw [held_split, zero_add]
  unfold rides
  iintro ⟨⟨Ha, Hr⟩, Hk, Hp, Ho⟩
  isplitl [Ha]; · iexact Ha
  isplitl [Hp]; · iexact Hp
  isplitl [Hr]
  · isplitl [Hr]; · iexact Hr
    iempintro
  isplitl [Hk] <;> iassumption
theorem reg0_post (c : Dev nD) : (reg0 (V₁ m)).post c ⊢ iprop(Tₙ m c ∗ ∃ W, owes (c : Thread nD τ) (0 : CellTallies nD τ sig Unit) W) := by
  show iprop(StableHlo.held (c : Thread nD τ) (Pipeline.arrRefs spec0) (fin' (V₁ m) c) ∗ (∃ r, prngReg c r)
      ∗ (StableHlo.held (c : Thread nD τ) others (fin' (V₁ m) c) ∗ BI.emp) ∗ semVal (bar c) 0 ∗ ∃ W, owes (c : Thread nD τ) 0 W) ⊢ _
  unfold Tₙ
  rw [held_split]
  iintro ⟨Ha, -, ⟨Hr, -⟩, Hb, Ho⟩
  isplitl [Ha Hr Hb]
  · isplitl [Ha Hr]
    · isplitl [Ha] <;> iassumption
    iexact Hb
  iexact Ho

/-! ## The launch -/

def u₀ : UU :=
  (initOf (Pipeline.cells (Pipeline.pin (pcfgs (F := F)) adm) cellOf_inj) (Pipeline.launchToks (Pipeline.pin (pcfgs (F := F)) adm) cellOf_inj), rounds₀)

/-- Device 0 has the rounds' element at launch. -/
def G (c : Dev nD) : sProp 𝕄 := if c = 0 then BI.own (ER rounds₀) else BI.emp
theorem all_G : (bigSep Finset.univ (G (F := F))) = BI.own (ER rounds₀) := by
  have h : (bigSep (Finset.univ.erase 0) (G (F := F))) = bigSep (Finset.univ.erase 0) (fun _ : Dev nD => BI.emp) := bigSep_congr fun c hc => show (if c = 0 then _ else _) = _ from if_neg (Finset.ne_of_mem_erase hc)
  rw [← Finset.insert_erase (Finset.mem_univ (0 : Dev nD)), bigSep_insert (Finset.notMem_erase _ _), h, bigSep_emp_const]
  exact BI.equiv_iff.mp BI.sep_emp

theorem unscoped_bar (sm : SemLoc sig) (h : sm.isScoped .tc = false) : sm = .reg barS :=
  Finset.mem_singleton.mp ((show (Finset.univ.filter fun sm : SemLoc sig => ¬ sm.isScoped .tc) = {SemLoc.reg barS} from by decide) ▸
    Finset.mem_filter.mpr ⟨Finset.mem_univ sm, by rw [h]; decide⟩)
theorem unscopedSems0_bar (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(iprop(semVal (bar c) 0 ∗ Pipeline.launchCred O₀ c) ∗ G c
        ∗ StableHlo.held (c : Thread nD τ) (Pipeline.ucRefs τ sig) (V₀ m c) ∗ (∃ r, prngReg c r) ∗ ∃ W, owes (c : Thread nD τ) (O₀ c) W) : sProp 𝕄) := by
    rw [show (unscopedBufs c fun b => m ((c : Thread nD τ).loc b) : sProp 𝕄)
        = StableHlo.held (c.tc : Thread nD τ) (Pipeline.ucRefs τ sig) (V₀ m c) from Pipeline.unscopedBufs_held c (V₀ m c), unscopedSems0_bar]
    iintro ⟨Hb, Hs, Ho, Hc, Hp, HG⟩
    isplitl [Hs Hc]; · isplitl [Hs] <;> iassumption
    isplitl [HG]; · iexact HG
    isplitl [Hb]; · iexact Hb
    isplitl [Hp]; · iexists _; iexact Hp
    iexists _; iexact Ho
  have h1' : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => iprop(semVal (bar c) 0 ∗ Pipeline.launchCred O₀ c)) ∗ BI.own (ER rounds₀)
        ∗ bigSep Finset.univ fun c : Dev nD => iprop(StableHlo.held (c : Thread nD τ) (Pipeline.ucRefs τ sig) (V₀ m c) ∗ (∃ r, prngReg c r) ∗ ∃ W, owes (c : Thread nD τ) (O₀ c) W)) : sProp 𝕄) := by
    rw [← all_G, ← bigSep_sep', ← bigSep_sep']
    exact bigSep_mono fun c _ => h1 c
  have h3 (c : Dev nD) : iprop(kept (V₁ m) c ∗ StableHlo.held (c : Thread nD τ) (Pipeline.ucRefs τ sig) (V₀ m c) ∗ (∃ r, prngReg c r) ∗ ∃ W, owes (c : Thread nD τ) (O₀ c) W)
      ⊢ (T₀ m c : sProp 𝕄) := by
    unfold T₀ rides
    iintro ⟨Hk, Hh, Hp, Ho⟩
    isplitl [Hh]; · iexact Hh
    isplitl [Hk]; · iexact Hk
    isplitl [Hp] <;> iassumption
  have h2 : iprop((bigSep Finset.univ (kept (V₁ m))) ∗ bigSep Finset.univ fun c : Dev nD =>
        iprop(StableHlo.held (c : Thread nD τ) (Pipeline.ucRefs τ sig) (V₀ m c) ∗ (∃ r, prngReg c r) ∗ ∃ W, owes (c : Thread nD τ) (O₀ c) W))
      ⊢ (bigSep Finset.univ (T₀ m) : sProp 𝕄) := by
    rw [← bigSep_sep']
    exact bigSep_mono fun c _ => h3 c
  iintro ⟨H, -⟩
  ihave H' := h1' $$ H
  icases H' with ⟨Hs, HG, Hr⟩
  imod (deal (V₁ m)) $$ [Hs HG] with Hk
  · isplitl [Hs] <;> iassumption
  imodintro
  iapply h2
  isplitl [Hk] <;> iassumption

/-! ## The run -/

/-- What the run leaves on every device. -/
def Left (s : MemSt nD τ sig (Elt F)) : Prop :=
  ∀ (c : Dev nD) (b : Ref sig .tc), (Proc.devRef .tc b : DevRef τ sig) ∈ Pipeline.ucRefs τ sig →
    s.mem ((c : Thread nD τ).loc b) = fin' (V₁ m) c (Proc.devRef .tc b)

set_option backward.isDefEq.respectTransparency.types false in
set_option maxRecDepth 20000 in
theorem run_main : θ_run defs (onTc (τ := τ) (main (F := F))) ⟨m, fun _ => 0, ρ⟩ (fun r => Left m r.2 ∧ r.2.sem = fun _ => 0) :=
  Pipeline.θ_run_regions_kit_dev_sems (pcfgs (F := F)) adm (pdats (V₁ m)) () cellOf_inj EP defs₀ 𝒱₀ L lv m ρ main (segs m)
    (main_wp m)
    (fun c => by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := fun c => ⟨seg0_pre m c, seg0_reg0 m c, reg0_post m c⟩)
    (hinit := init m ρ)
    (QY := fun c s => (∀ b : Ref sig .tc, (Proc.devRef .tc b : DevRef τ sig) ∈ Pipeline.ucRefs τ sig →
      s.mem ((c : Thread nD τ).loc b) = fin' (V₁ m) c (Proc.devRef .tc b)) ∧ s.sem (bar c) = 0)
    (hfin := fun c s' => by
      unfold Tₙ StableHlo.held
      iintro ⟨⟨Hh, Hb⟩, HSI⟩
      ihave %h := (SI_pointsTo_bufs_agree (qs := fun _ => fullShare) (Pipeline.ucRefs τ sig)) $$ [HSI Hh]
      · isplitl [HSI]; · iexact HSI
        iexact Hh
      icombine HSI Hb gives %hb
      imodintro
      isplitr; · ipureintro; exact ⟨fun b hb => h _ hb, by simpa using hb⟩
      iexact HSI)
    (hQ := fun s h hs => ⟨fun c => (h c).1, sem_eq_zero hs fun c sm hsm => by rw [unscoped_bar sm hsm]; exact (h c).2⟩)

/-- A buffer that no statement writes ends as it started. -/
theorem arg_eq (c : Dev nD) (b : Ref sig .tc) (hb : b = main_arg0 ∨ b = main_arg1 ∨ b = main_arg2 ∨ b = main_arg3 ∨ b = main_arg4) :
    fin' (V₁ m) c (Proc.devRef .tc b) = m ((c : Thread nD τ).loc b) := by
  rcases hb with rfl | rfl | rfl | rfl | rfl <;>
    (rw [fin_other _ _ _ (by decide)]; unfold V₁; show StableHlo.after (hostOps0 c) _ _ = _; after_results; rfl)

/-- Every device ends with its arguments and with its block of the result, and every counter at zero. -/
theorem run_all : θ_run defs (onTc (τ := τ) (main (F := F))) ⟨m, fun _ => 0, ρ⟩ (fun r =>
    (∀ c : Dev nD, r.2.mem ((c : Thread nD τ).loc main_v28) = outI (inp (V₁ m)) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (run_main m ρ).mono fun r h => ⟨fun c => ?_, h.2⟩
  have ha : ∀ b : Ref sig .tc, (Proc.devRef .tc b : DevRef τ sig) ∈ Pipeline.ucRefs τ sig → _ := h.1 c
  refine ⟨(ha main_v28 (by decide)).trans (fin_out _ _), (ha main_arg0 (by decide)).trans (arg_eq m c _ (.inl rfl)),
    (ha main_arg1 (by decide)).trans (arg_eq m c _ (.inr (.inl rfl))), (ha main_arg2 (by decide)).trans (arg_eq m c _ (.inr (.inr (.inl rfl)))),
    (ha main_arg3 (by decide)).trans (arg_eq m c _ (.inr (.inr (.inr (.inl rfl))))), (ha main_arg4 (by decide)).trans (arg_eq m c _ (.inr (.inr (.inr (.inr rfl)))))⟩

end Cert.KernelIdeal.St

end
-- ==== Proof.Value.Ref.lean ====
module

public import proofs.«01_k».proof.Proof.Gen.ReferenceIdeal.Run
public import Idealize.ShloMosaic.Lib.Pointwise
public import Idealize.ShloMosaic.Lib.Routing.OpsOrder

@[expose] public section

/-! # The reference's result, at an index -/

noncomputable section

namespace Cert.ReferenceIdeal.Val

open Idealize.ShloMosaic Idealize.ShloMosaic.TcCoe
open Cert.ReferenceIdeal Cert.ReferenceIdeal.Gen

/-! ## The result's term, in steps -/

/-- The number of a position's block of 64. -/
def blk : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The keys that a query may read: those of its block and of the blocks before. -/
def mask : IVec S512x512 1 :=
  cmpi .sle (broadcastInDim S512x512 ![0, 1] bcast_S1x512_S512x512_0_1 (broadcastInDim S1x512 ![1] bcast_S512_S1x512_1 blk)) (broadcastInDim S512x512 ![0, 1] bcast_S512x1_S512x512_0_1 (broadcastInDim S512x1 ![0] bcast_S512_S512x1_0 blk))

def keep : IVec S512 1 := Host.reduce IntOp.ori mask (constantI S_ 1 0#1) reducesTo_S512x512_S512_d1 h_S_

abbrev X := FVec Ideal S16x512x768 .f32
abbrev WQ := FVec Ideal S768x4096 .f32
abbrev KV := FVec Ideal S16x512x64x64 .f32
abbrev WO := FVec Ideal S4096x768 .f32
abbrev SC := FVec Ideal S16x64x512x512 .f32

def scores (x : X) (wq : WQ) (k : KV) : SC :=
  mulf (Host.dotGeneral dot_S16x512x64x64_S16x512x64x64_S16x64x512x512_3_3_1_1_02_02 none (shapeCast _ (Host.dotGeneral dot_S16x512x768_S768x4096_S16x512x4096_2_0_01_1_n_n none x wq) shapeCasts_S16x512x4096_S16x512x64x64) k) (broadcastInDim S16x64x512x512 ![] bcast_S_S16x64x512x512 (constant S_ .f32 0x3E000000#32))

def masked (s : SC) : SC :=
  select (broadcastInDim S16x64x512x512 ![0, 1, 2, 3] bcast_S1x1x512x512_S16x64x512x512_0_1_2_3 (broadcastInDim S1x1x512x512 ![2, 3] bcast_S512x512_S1x1x512x512_2_3 mask)) s (broadcastInDim S16x64x512x512 ![] bcast_S_S16x64x512x512 (id (constant S_ .f32 0xFF800000#32)))

def top (s : SC) : FVec Ideal S16x64x512 .f32 :=
  Host.reduce FloatOps.maximumf s (constant S_ .f32 0xFF800000#32) reducesTo_S16x64x512x512_S16x64x512_d3 h_S_

def expo (s : SC) : SC :=
  Host.exp (subf s (broadcastInDim S16x64x512x512 ![0, 1, 2, 3] bcast_S16x64x512x1_S16x64x512x512_0_1_2_3 (broadcastInDim S16x64x512x1 ![0, 1, 2] bcast_S16x64x512_S16x64x512x1_0_1_2 (top s))))

def denom (e : SC) : FVec Ideal S16x64x512x1 .f32 :=
  select (broadcastInDim S16x64x512x1 ![0, 1, 2, 3] bcast_S1x1x512x1_S16x64x512x1_0_1_2_3 (broadcastInDim S1x1x512x1 ![2] bcast_S512_S1x1x512x1_2 keep)) (broadcastInDim S16x64x512x1 ![0, 1, 2] bcast_S16x64x512_S16x64x512x1_0_1_2 (Host.reduceAdd e (constant S_ .f32 0x00000000#32) reducesTo_S16x64x512x512_S16x64x512_d3 h_S_)) (broadcastInDim S16x64x512x1 ![] bcast_S_S16x64x512x1 (id (constant S_ .f32 0x3F800000#32)))

def weights (e : SC) : SC :=
  select (broadcastInDim S16x64x512x512 ![0, 1, 2, 3] bcast_S1x1x512x1_S16x64x512x512_0_1_2_3 (broadcastInDim S1x1x512x1 ![2] bcast_S512_S1x1x512x1_2 keep)) (Host.divf e (broadcastInDim S16x64x512x512 ![0, 1, 2, 3] bcast_S16x64x512x1_S16x64x512x512_0_1_2_3 (denom e))) (broadcastInDim S16x64x512x512 ![] bcast_S_S16x64x512x512 (id (constant S_ .f32 0x00000000#32)))

def result (w : SC) (v : KV) (wo : WO) : X :=
  Host.dotGeneral dot_S16x512x4096_S4096x768_S16x512x768_2_0_01_1_n_n none (shapeCast _ (transpose S16x512x64x64 [0, 3, 1, 2] (Host.dotGeneral dot_S16x512x64x64_S16x64x512x512_S16x64x64x512_1_3_3_2_02_01 none v w) transposes_S16x64x64x512_S16x512x64x64_0_3_1_2) shapeCasts_S16x512x64x64_S16x512x4096) wo

theorem res_eq (m : (ℓ : Loc nD τ sig) → Buf (Elt Ideal) ℓ) (c : Dev nD) :
    Value.res_main_v33 m c = result (weights (expo (masked (scores (m ((c.tc : Thread nD τ).loc main_arg0))
      (m ((c.tc : Thread nD τ).loc main_arg1)) (m ((c.tc : Thread nD τ).loc main_arg2))))))
      (m ((c.tc : Thread nD τ).loc main_arg3)) (m ((c.tc : Thread nD τ).loc main_arg4)) := rfl

/-! ## The mask -/

theorem blk_apply (i : Fin 512) : blk (ix1 i) = BitVec.ofNat 32 (i.val / 64) := by
  pointwise [blk]
  revert i
  decide +kernel

theorem mask_apply (i j : Fin 512) : mask (ix2 i j) = if j.val / 64 ≤ i.val / 64 then 1#1 else 0#1 := by
  pointwise [mask, blk_apply]
  have h : ∀ a b : Fin 8, IntOp.cmpi CmpIPredicate.sle (BitVec.ofNat 32 a.val) (BitVec.ofNat 32 b.val) = if a.val ≤ b.val then 1#1 else 0#1 := by
    decide +kernel
  exact h ⟨j.val / 64, by omega⟩ ⟨i.val / 64, by omega⟩

theorem keep_apply (i : Fin 512) : keep (ix1 i) = 1#1 := by
  pointwise [keep, mask_apply]
  exact (Routing.fold_ori _ _).2 ⟨0, Finset.mem_univ _, if_pos (by simp)⟩

/-! ## The rest -/

theorem eighth : Ideal.ofBits .f32 0x3E000000#32 = (((1 : ℝ) / 8 : ℝ) : EReal) := by
  simp [Ideal.ofBits, Ideal.ieee, -EReal.coe_mul]; norm_num

theorem negInf : Ideal.ofBits .f32 0xFF800000#32 = ⊥ := by
  simp [Ideal.ofBits, Ideal.ieee]

theorem scores_apply (x : X) (wq : WQ) (k : KV) (b : Fin 16) (h : Fin 64) (i j : Fin 512) :
    scores x wq k (ix4 b h i j)
      = (∑ d : Fin 64, (∑ p : Fin 768, x (ix3 b i p) * wq (ix2 p ⟨h.val * 64 + d.val, by omega⟩)) * k (ix4 b j h d))
          * (((1 : ℝ) / 8 : ℝ) : EReal) := by
  pointwise [scores]
  rw [← eighth]

theorem masked_apply (s : SC) (b : Fin 16) (h : Fin 64) (i j : Fin 512) :
    masked s (ix4 b h i j) = if j.val / 64 ≤ i.val / 64 then s (ix4 b h i j) else ⊥ := by
  pointwise [masked, mask_apply]
  split
  · rfl
  · exact negInf

theorem expo_apply (s : SC) (b : Fin 16) (h : Fin 64) (i j : Fin 512) :
    expo s (ix4 b h i j) = Ideal.exp (s (ix4 b h i j) - Finset.fold max ⊥ (fun k : Fin 512 => s (ix4 b h i k)) Finset.univ) := by
  pointwise [expo, top]
  rw [← negInf]

theorem weights_apply (e : SC) (b : Fin 16) (h : Fin 64) (i j : Fin 512) :
    weights e (ix4 b h i j) = Ideal.div (e (ix4 b h i j)) (∑ k : Fin 512, e (ix4 b h i k)) := by
  pointwise [weights, denom, keep_apply]

theorem result_apply (w : SC) (v : KV) (wo : WO) (b : Fin 16) (i : Fin 512) (n : Fin 768) :
    result w v wo (ix3 b i n)
      = ∑ c : Fin 4096, (∑ j : Fin 512, v (ix4 b j ⟨c.val / 64, by omega⟩ ⟨c.val % 64, by omega⟩)
          * w (ix4 b ⟨c.val / 64, by omega⟩ i j)) * wo (ix2 c n) := by
  pointwise [result]

end Cert.ReferenceIdeal.Val
-- ==== Proof.Value.Kern.lean ====
module

public import proofs.«01_k».proof.Proof.Ideal.Work
public import Idealize.ShloMosaic.Lib.Pointwise

@[expose] public section

/-! # The kernel's result, at an index -/

noncomputable section

namespace Cert.KernelIdeal.Val

open Idealize.ShloMosaic Idealize.ShloMosaic.TcCoe
open Cert.KernelIdeal Cert.KernelIdeal.Gen Cert.KernelIdeal.St

/-! ## The mask -/

theorem pay1_apply (i j : Fin 512) : k0_pay1 (ix2 i j) = BitVec.ofNat 32 (i.val / 64) := by
  pointwise [k0_pay1]
  revert i
  decide +kernel

theorem pay4_apply (v : IVec S512x512 32) (i j : Fin 512) :
    k0_pay4 v (iota .tc S512x512 32 [1] iota_S512x512_d1_w32) 64#32 k0_pay2 k0_pay3 (ix2 i j)
      = IntOp.cmpi CmpIPredicate.sle (BitVec.ofNat 32 (j.val / 64)) (v (ix2 i j)) := by
  pointwise [k0_pay4, k0_pay2, k0_pay3]
  refine congrArg (fun z => IntOp.cmpi CmpIPredicate.sle z _) ?_
  revert j
  decide +kernel

theorem maskV_apply (i j : Fin 512) : maskV (ix2 i j) = if j.val / 64 ≤ i.val / 64 then 1#1 else 0#1 := by
  unfold maskV
  rw [pay4_apply, pay1_apply]
  have h : ∀ a b : Fin 8, IntOp.cmpi CmpIPredicate.sle (BitVec.ofNat 32 a.val) (BitVec.ofNat 32 b.val) = if a.val ≤ b.val then 1#1 else 0#1 := by
    decide +kernel
  exact h ⟨j.val / 64, by omega⟩ ⟨i.val / 64, by omega⟩

/-! ## One head -/

def wt (i j : Fin 512) (s : EReal) : EReal := if j.val / 64 ≤ i.val / 64 then Ideal.exp s else 0

theorem headV_apply (q : FVec Ideal S512x64 .bf16) (k v : FVec Ideal S1x1x64x512 .bf16) (i : Fin 512) (d : Fin 64) :
    headV q k v (ix2 i d)
      = Ideal.div (∑ j : Fin 512, wt i j (∑ p : Fin 64, q (ix2 i p) * k (ix4 0 0 p j)) * v (ix4 0 0 d j))
          (∑ j : Fin 512, wt i j (∑ p : Fin 64, q (ix2 i p) * k (ix4 0 0 p j))) := by
  pointwise [headV, maskV_apply]
  refine congrArg₂ Ideal.div (Finset.sum_congr rfl fun j _ => ?_) (Finset.sum_congr rfl fun j _ => ?_)
  · unfold wt
    split
    · rfl
    · exact (zero_mul _).symm
  · unfold wt
    split <;> rfl

theorem rowV_apply (q : FVec Ideal S1024x256 .bf16) (b : Fin 2) (k v : Fin 4 → FVec Ideal S1x1x64x512 .bf16) (i : Fin 512) (r : Fin 4) (d : Fin 64) :
    rowV q b k v (ix2 i ⟨64 * r.val + d.val, by omega⟩) = headV (qAt q b r) (k r) (v r) (ix2 i d) := by
  pointwise [rowV]
  match r with
  | 0 => rw [dif_pos (show 64 * (0 : Fin 4).val + d.val < 64 by have := d.isLt; simp)]; exact congrArg _ (congrArg _ (Fin.ext (by simp)))
  | 1 =>
    rw [dif_neg (by simp), dif_pos (by simp)]; exact congrArg _ (congrArg _ (Fin.ext (by simp)))
  | 2 =>
    rw [dif_neg (by simp; omega), dif_neg (by simp; omega), dif_pos (by simp; omega)]; exact congrArg _ (congrArg _ (Fin.ext (by simp; omega)))
  | 3 =>
    rw [dif_neg (by simp; omega), dif_neg (by simp; omega), dif_neg (by simp; omega)]; exact congrArg _ (congrArg _ (Fin.ext (by simp; omega)))

theorem qAt_apply (q : FVec Ideal S1024x256 .bf16) (b : Fin 2) (r : Fin 4) (i : Fin 512) (p : Fin 64) :
    qAt q b r (ix2 i p) = q (ix2 ⟨512 * b.val + i.val, by omega⟩ ⟨64 * r.val + p.val, by omega⟩) := by
  pointwise [qAt]

theorem qOf_apply (x : FVec Ideal S2x512x768 .bf16) (w : FVec Ideal S768x256 .bf16) (b : Fin 2) (i : Fin 512) (u : Fin 256) :
    qOf (k0_pay5 x) w (ix2 ⟨512 * b.val + i.val, by omega⟩ u) = ∑ p : Fin 768, x (ix3 b i p) * w (ix2 p u) := by
  pointwise [qOf, k0_pay5]

theorem outV_apply (ca cb : FVec Ideal S1024x2048 .bf16) (wa wb : FVec Ideal S8x256x768 .bf16) (b : Fin 2) (i : Fin 512) (n : Fin 768) :
    outV (F := Ideal) ca cb wa wb (ix3 b i n)
      = (∑ t : Fin 2048, ca (ix2 ⟨b.val * 512 + i.val, by omega⟩ t) * wa (ix3 ⟨t.val / 256, by omega⟩ ⟨t.val % 256, by omega⟩ n))
        + ∑ t : Fin 2048, cb (ix2 ⟨b.val * 512 + i.val, by omega⟩ t) * wb (ix3 ⟨t.val / 256, by omega⟩ ⟨t.val % 256, by omega⟩ n) := by
  pointwise [outV]

variable (I : Inp Ideal)

theorem kread_apply (c : Dev nD) (g b : Fin 2) (s : Fin 8) (r : Fin 4) (p : Fin 64) (j : Fin 512) :
    kread I c g b s r (ix4 0 0 p j)
      = I.k c (ix4 b ⟨8 * (own g s.val c).val + 4 * g.val + r.val, by have := (own g s.val c).isLt; omega⟩ p j) := by
  refine congrArg (I.k c) (funext fun a => Fin.ext ?_)
  have h : offT g b s c r a = _ := congrFun (offT_eq g b s c r) a
  show offT g b s c r a + 1 * _ = _
  rw [h]
  match a with
  | 0 => show b.val + 1 * 0 = b.val; omega
  | 1 => show 8 * (own g s.val c).val + 4 * g.val + r.val + 1 * 0 = 8 * (own g s.val c).val + 4 * g.val + r.val; omega
  | 2 => show 0 + 1 * p.val = p.val; omega
  | 3 => show 0 + 1 * j.val = j.val; omega

theorem vread_apply (c : Dev nD) (g b : Fin 2) (s : Fin 8) (r : Fin 4) (p : Fin 64) (j : Fin 512) :
    vread I c g b s r (ix4 0 0 p j)
      = I.v c (ix4 b ⟨8 * (own g s.val c).val + 4 * g.val + r.val, by have := (own g s.val c).isLt; omega⟩ p j) := by
  refine congrArg (I.v c) (funext fun a => Fin.ext ?_)
  have h : offT g b s c r a = _ := congrFun (offT_eq g b s c r) a
  show offT g b s c r a + 1 * _ = _
  rw [h]
  match a with
  | 0 => show b.val + 1 * 0 = b.val; omega
  | 1 => show 8 * (own g s.val c).val + 4 * g.val + r.val + 1 * 0 = 8 * (own g s.val c).val + 4 * g.val + r.val; omega
  | 2 => show 0 + 1 * p.val = p.val; omega
  | 3 => show 0 + 1 * j.val = j.val; omega

/-! ## The whole -/

/-- A query's score of a key, of the device's batch `b` and the head `h` of device `o`. -/
def sc (c : Dev nD) (o : Fin 8) (g : Fin 2) (r : Fin 4) (b : Fin 2) (i j : Fin 512) : EReal :=
  ∑ d : Fin 64, (∑ p : Fin 768, I.x c (ix3 b i p) * I.wq g o (ix2 p ⟨64 * r.val + d.val, by omega⟩))
    * I.k c (ix4 b ⟨8 * o.val + 4 * g.val + r.val, by omega⟩ d j)

/-- What a query gathers of a head's values. -/
def att (c : Dev nD) (o : Fin 8) (g : Fin 2) (r : Fin 4) (b : Fin 2) (i : Fin 512) (d : Fin 64) : EReal :=
  Ideal.div (∑ j : Fin 512, wt i j (sc I c o g r b i j) * I.v c (ix4 b ⟨8 * o.val + 4 * g.val + r.val, by omega⟩ d j))
    (∑ j : Fin 512, wt i j (sc I c o g r b i j))

theorem qI_apply (c : Dev nD) (g : Fin 2) (s : Fin 8) (b : Fin 2) (i : Fin 512) (u : Fin 256) :
    qI I c g s (ix2 ⟨512 * b.val + i.val, by omega⟩ u) = ∑ p : Fin 768, I.x c (ix3 b i p) * I.wq g (own g s.val c) (ix2 p u) :=
  qOf_apply _ _ _ _ _

theorem rowI_apply (c : Dev nD) (g b : Fin 2) (s : Fin 8) (i : Fin 512) (r : Fin 4) (d : Fin 64) :
    rowI I c g b s (ix2 i ⟨64 * r.val + d.val, by omega⟩) = att I c (own g s.val c) g r b i d := by
  have hk : (![kread I c g b s 0, kread I c g b s 1, kread I c g b s 2, kread I c g b s 3] : Fin 4 → FVec Ideal S1x1x64x512 .bf16) r = kread I c g b s r := by
    match r with | 0 => rfl | 1 => rfl | 2 => rfl | 3 => rfl
  have hv : (![vread I c g b s 0, vread I c g b s 1, vread I c g b s 2, vread I c g b s 3] : Fin 4 → FVec Ideal S1x1x64x512 .bf16) r = vread I c g b s r := by
    match r with | 0 => rfl | 1 => rfl | 2 => rfl | 3 => rfl
  refine (rowV_apply (qI I c g s) b _ _ i r d).trans ?_
  rw [hk, hv, headV_apply]
  have hs : ∀ j : Fin 512, (∑ p : Fin 64, qAt (qI I c g s) b r (ix2 i p) * kread I c g b s r (ix4 0 0 p j)) = sc I c (own g s.val c) g r b i j := fun j =>
    Finset.sum_congr rfl fun p _ => by rw [qAt_apply, qI_apply, kread_apply]
  simp only [hs]
  refine congrArg₂ Ideal.div (Finset.sum_congr rfl fun j _ => ?_) rfl
  rw [vread_apply]

theorem tabI_apply (c : Dev nD) (g b : Fin 2) (i : Fin 512) (t : Fin 2048) :
    tabI I c g (ix2 ⟨b.val * 512 + i.val, by omega⟩ t)
      = att I c (own g (t.val / 256) c) g ⟨t.val % 256 / 64, by omega⟩ b i ⟨t.val % 64, by omega⟩ := by
  refine Eq.trans ?_ (rowI_apply I c g b ⟨t.val / 256, by omega⟩ i ⟨t.val % 256 / 64, by omega⟩ ⟨t.val % 64, by omega⟩)
  unfold tabI
  have hb : bOf (ix2 ⟨b.val * 512 + i.val, by omega⟩ t) = b := Fin.ext (show (b.val * 512 + i.val) / 512 = b.val by omega)
  have hi : inOf (ix2 ⟨b.val * 512 + i.val, by omega⟩ t) = ix2 i ⟨64 * (t.val % 256 / 64) + t.val % 64, by omega⟩ := funext fun a => Fin.ext (by
    match a with
    | 0 => show (b.val * 512 + i.val) % 512 = i.val; omega
    | 1 => show t.val % 256 = 64 * (t.val % 256 / 64) + t.val % 64; omega)
  rw [hb, hi]
  rfl

theorem outI_apply (c : Dev nD) (b : Fin 2) (i : Fin 512) (n : Fin 768) :
    outI I c (ix3 b i n)
      = (∑ t : Fin 2048, att I c (own 0 (t.val / 256) c) 0 ⟨t.val % 256 / 64, by omega⟩ b i ⟨t.val % 64, by omega⟩
          * I.wo 0 (own 0 (t.val / 256) c) (ix2 ⟨t.val % 256, by omega⟩ n))
        + ∑ t : Fin 2048, att I c (own 1 (t.val / 256) c) 1 ⟨t.val % 256 / 64, by omega⟩ b i ⟨t.val % 64, by omega⟩
          * I.wo 1 (own 1 (t.val / 256) c) (ix2 ⟨t.val % 256, by omega⟩ n) := by
  have hw : ∀ (g : Fin 2) (t : Fin 2048), WO I c g (ix3 ⟨t.val / 256, by omega⟩ ⟨t.val % 256, by omega⟩ n)
      = I.wo g (own g (t.val / 256) c) (ix2 ⟨t.val % 256, by omega⟩ n) := fun g t =>
    congrArg (I.wo g _) (funext fun a => by match a with | 0 => rfl | 1 => rfl)
  unfold outI
  rw [outV_apply]
  refine congrArg₂ (· + ·) (Finset.sum_congr rfl fun t _ => ?_) (Finset.sum_congr rfl fun t _ => ?_)
  · rw [tabI_apply, hw]
  · rw [tabI_apply, hw]

end Cert.KernelIdeal.Val
-- ==== Proof.Value.Inputs.lean ====
module

public import proofs.«01_k».proof.Proof.Ideal.Start
public import Idealize.ShloMosaic.Lib.Pointwise

@[expose] public section

/-! # What the kernel is launched on, at an index -/

noncomputable section

namespace Cert.KernelIdeal.Val

open Idealize.ShloMosaic Idealize.ShloMosaic.TcCoe
open Cert.KernelIdeal Cert.KernelIdeal.Gen Cert.KernelIdeal.St

variable (m : (ℓ : Loc nD τ sig) → Buf (Elt Ideal) ℓ) (c : Dev nD)

abbrev A0 : FVec Ideal S2x512x768 .f32 := m ((c.tc : Thread nD τ).loc main_arg0)
abbrev A1 : FVec Ideal S768x512 .f32 := m ((c.tc : Thread nD τ).loc main_arg1)
abbrev A2 : FVec Ideal S16x512x64x64 .f32 := m ((c.tc : Thread nD τ).loc main_arg2)
abbrev A3 : FVec Ideal S16x512x64x64 .f32 := m ((c.tc : Thread nD τ).loc main_arg3)
abbrev A4 : FVec Ideal S512x768 .f32 := m ((c.tc : Thread nD τ).loc main_arg4)

theorem x_eq : (inp (V₁ m)).x c = truncf .bf16 (A0 m c) bitsLt_bf16_f32 := by
  show StableHlo.after (hostOps0 (F := Ideal) c) (V₀ m c) (Proc.devRef .tc main_v19) = _
  after_results
  rfl

def wqs : FVec Ideal S768x512 .bf16 :=
  truncf .bf16 (mulf (A1 m c) (broadcastInDim S768x512 ![] bcast_S_S768x512 (constant S_ .f32 0x3E000000#32))) bitsLt_bf16_f32

theorem wq0_eq : (inp (V₁ m)).wq 0 c = extractStridedSlice S768x256 ![0, 0] (wqs m c) slices_S768x512_S768x256_0_0 := by
  show StableHlo.after (hostOps0 (F := Ideal) c) (V₀ m c) (Proc.devRef .tc main_v24) = _
  after_results
  rfl
theorem wq1_eq : (inp (V₁ m)).wq 1 c = extractStridedSlice S768x256 ![0, 256] (wqs m c) slices_S768x512_S768x256_0_256 := by
  show StableHlo.after (hostOps0 (F := Ideal) c) (V₀ m c) (Proc.devRef .tc main_v25) = _
  after_results
  rfl
theorem wo0_eq : (inp (V₁ m)).wo 0 c = extractStridedSlice S256x768 ![0, 0] (truncf (F := Ideal) .bf16 (A4 m c) bitsLt_bf16_f32) slices_S512x768_S256x768_0_0 := by
  show StableHlo.after (hostOps0 (F := Ideal) c) (V₀ m c) (Proc.devRef .tc main_v26) = _
  after_results
  rfl
theorem wo1_eq : (inp (V₁ m)).wo 1 c = extractStridedSlice S256x768 ![256, 0] (truncf (F := Ideal) .bf16 (A4 m c) bitsLt_bf16_f32) slices_S512x768_S256x768_256_0 := by
  show StableHlo.after (hostOps0 (F := Ideal) c) (V₀ m c) (Proc.devRef .tc main_v27) = _
  after_results
  rfl

/-- Where the device's batches begin. -/
def at₀ : Fin 4 → ℤ := ![2 * (c.val : ℤ), 0, 0, 0]

def blkOf (a : FVec Ideal S16x512x64x64 .f32) : FVec Ideal S2x64x64x512 .bf16 :=
  truncf .bf16 (transpose S2x64x64x512 [0, 2, 3, 1] (Host.dynamicSlice S2x512x64x64 a (at₀ c) sliceFits_S16x512x64x64_S2x512x64x64)
    transposes_S2x512x64x64_S2x64x64x512_0_2_3_1) bitsLt_bf16_f32

/-- The word that the host computes as the first batch of device `c`. -/
def startW (w : BitVec 32) : BitVec 32 :=
  Scalar.select (IntOp.cmpi .slt (IntOp.muli (IntOp.remui .host (IntOp.divui .host w 1#32) 8#32) 2#32) 0#32)
    (IntOp.addi (IntOp.muli (IntOp.remui .host (IntOp.divui .host w 1#32) 8#32) 2#32) 16#32)
    (IntOp.muli (IntOp.remui .host (IntOp.divui .host w 1#32) 8#32) 2#32)

theorem start_val : (startW (Dev.word c)).toInt = 2 * (c.val : ℤ) := by
  revert c; decide +kernel

theorem k_eq : (inp (V₁ m)).k c = blkOf c (A2 m c) := by
  show StableHlo.after (hostOps0 (F := Ideal) c) (V₀ m c) (Proc.devRef .tc main_v16) = _
  after_results
  refine congrArg (fun st => truncf (F := Ideal) .bf16 (transpose S2x64x64x512 [0, 2, 3, 1] (Host.dynamicSlice S2x512x64x64 (A2 m c) st sliceFits_S16x512x64x64_S2x512x64x64)
    transposes_S2x512x64x64_S2x64x64x512_0_2_3_1) bitsLt_bf16_f32) (funext fun k => ?_)
  match k with
  | 0 => exact (show (startW (Dev.word c)).toInt = _ from start_val c)
  | 1 => rfl
  | 2 => rfl
  | 3 => rfl

theorem v_eq : (inp (V₁ m)).v c = blkOf c (A3 m c) := by
  show StableHlo.after (hostOps0 (F := Ideal) c) (V₀ m c) (Proc.devRef .tc main_v18) = _
  after_results
  refine congrArg (fun st => truncf (F := Ideal) .bf16 (transpose S2x64x64x512 [0, 2, 3, 1] (Host.dynamicSlice S2x512x64x64 (A3 m c) st sliceFits_S16x512x64x64_S2x512x64x64)
    transposes_S2x512x64x64_S2x64x64x512_0_2_3_1) bitsLt_bf16_f32) (funext fun k => ?_)
  match k with
  | 0 => exact (show (startW (Dev.word c)).toInt = _ from start_val c)
  | 1 => rfl
  | 2 => rfl
  | 3 => rfl

/-! ## At an index -/

theorem x_apply (b : Fin 2) (i : Fin 512) (p : Fin 768) : (inp (V₁ m)).x c (ix3 b i p) = A0 m c (ix3 b i p) :=
  congrFun (x_eq m c) _

theorem wq_apply (g : Fin 2) (p : Fin 768) (u : Fin 256) :
    (inp (V₁ m)).wq g c (ix2 p u) = A1 m c (ix2 p ⟨256 * g.val + u.val, by omega⟩) * Ideal.ofBits .f32 0x3E000000#32 := by
  match g with
  | 0 => rw [wq0_eq]; pointwise [wqs]
  | 1 => rw [wq1_eq]; pointwise [wqs]

theorem wo_apply (g : Fin 2) (u : Fin 256) (n : Fin 768) :
    (inp (V₁ m)).wo g c (ix2 u n) = A4 m c (ix2 ⟨256 * g.val + u.val, by omega⟩ n) := by
  match g with
  | 0 => rw [wo0_eq]; pointwise []
  | 1 => rw [wo1_eq]; pointwise []

theorem blkOf_apply (a : FVec Ideal S16x512x64x64 .f32) (b : Fin 2) (h d : Fin 64) (j : Fin 512) :
    blkOf c a (ix4 b h d j) = a (ix4 ⟨2 * c.val + b.val, by have : c.val < 8 := c.isLt; omega⟩ j h d) := by
  pointwise [blkOf]
  have hc : c.val < 8 := c.isLt
  have h0 : Host.clampedStart S16x512x64x64 S2x512x64x64 rfl (at₀ c) 0 = 2 * c.val :=
    Host.clampedStart_of_le (s := S16x512x64x64) (t := S2x512x64x64) rfl (at₀ c) 0 (2 * c.val) (by simp [at₀]) (by show 2 * c.val + 2 ≤ 16; omega)
  have h1 : Host.clampedStart S16x512x64x64 S2x512x64x64 rfl (at₀ c) 1 = 0 :=
    Host.clampedStart_of_le (s := S16x512x64x64) (t := S2x512x64x64) rfl (at₀ c) 1 0 (by simp [at₀]) (by decide)
  have h2 : Host.clampedStart S16x512x64x64 S2x512x64x64 rfl (at₀ c) 2 = 0 :=
    Host.clampedStart_of_le (s := S16x512x64x64) (t := S2x512x64x64) rfl (at₀ c) 2 0 (by simp [at₀]) (by decide)
  have h3 : Host.clampedStart S16x512x64x64 S2x512x64x64 rfl (at₀ c) 3 = 0 :=
    Host.clampedStart_of_le (s := S16x512x64x64) (t := S2x512x64x64) rfl (at₀ c) 3 0 (by simp [at₀]) (by decide)
  simp only [h0, h1, h2, h3, Nat.zero_add]

theorem k_apply (b : Fin 2) (h d : Fin 64) (j : Fin 512) :
    (inp (V₁ m)).k c (ix4 b h d j) = A2 m c (ix4 ⟨2 * c.val + b.val, by have : c.val < 8 := c.isLt; omega⟩ j h d) := by
  rw [k_eq, blkOf_apply]

theorem v_apply (b : Fin 2) (h d : Fin 64) (j : Fin 512) :
    (inp (V₁ m)).v c (ix4 b h d j) = A3 m c (ix4 ⟨2 * c.val + b.val, by have : c.val < 8 := c.isLt; omega⟩ j h d) := by
  rw [v_eq, blkOf_apply]

end Cert.KernelIdeal.Val
-- ==== Proof.Value.Math.lean ====
module

public import Idealize.ShloMosaic.Lib.Pointwise

@[expose] public section

/-! # Weights and sums over the extended reals -/

noncomputable section

namespace Cert.Val

open Idealize.ShloMosaic

/-- A value that is neither infinity. -/
def Fin' (a : EReal) : Prop := ∃ r : ℝ, a = (r : EReal)

theorem Fin'.mul {a b : EReal} : Fin' a → Fin' b → Fin' (a * b) := by
  rintro ⟨r, rfl⟩ ⟨s, rfl⟩; exact ⟨r * s, (EReal.coe_mul r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type} {s : Finset ι} {f : ι → EReal} (h : ∀ i, Fin' (f i)) : Fin' (∑ i ∈ s, f i) := by
  choose g hg using h
  exact ⟨∑ i ∈ s, g i, by rw [coe_sum]; exact Finset.sum_congr rfl fun i _ => hg i⟩

theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

variable {n : ℕ}

/-- Scores scaled before the sums or after them. -/
theorem scale {m : ℕ} {c : ℝ} (hc : 0 ≤ c) (x w : Fin n → Fin m → EReal) (k : Fin n → EReal) :
    ∑ d, (∑ p, x d p * (w d p * (c : EReal))) * k d = (∑ d, (∑ p, x d p * w d p) * k d) * (c : EReal) := by
  rw [sum_mul_real _ _ hc]
  refine Finset.sum_congr rfl fun d _ => ?_
  rw [mul_right_comm, sum_mul_real _ _ hc]
  exact congrArg (· * k d) (Finset.sum_congr rfl fun p _ => (mul_assoc _ _ _).symm)

section
variable (s : Fin n → ℝ) (P : Fin n → Prop) [DecidablePred P]

theorem top_real {j₀ : Fin n} (h₀ : P j₀) :
    ∃ μ : ℝ, Finset.fold max ⊥ (fun k => if P k then (s k : EReal) else ⊥) Finset.univ = (μ : EReal) := by
  set M := Finset.fold max ⊥ (fun k => if P k then (s k : EReal) else ⊥) Finset.univ with hM
  have ht : M < ⊤ := (Finset.fold_max_lt _).2 ⟨bot_lt_top, fun k _ => by
    split
    · exact EReal.coe_lt_top _
    · exact bot_lt_top⟩
  have hb : ⊥ < M := (Finset.lt_fold_max _).2 (.inr ⟨j₀, Finset.mem_univ _, by rw [if_pos h₀]; exact EReal.bot_lt_coe _⟩)
  exact ⟨M.toReal, (EReal.coe_toReal ht.ne hb.ne').symm⟩

def e (j : Fin n) : ℝ := if P j then Real.exp (s j) else 0

theorem e_nonneg (j : Fin n) : 0 ≤ e s P j := by unfold e; split <;> [exact (Real.exp_pos _).le; exact le_rfl]

theorem e_sum_pos {j₀ : Fin n} (h₀ : P j₀) : 0 < ∑ j, e s P j :=
  Finset.sum_pos' (fun j _ => e_nonneg s P j) ⟨j₀, Finset.mem_univ _, by unfold e; rw [if_pos h₀]; exact Real.exp_pos _⟩

theorem exp_shift (μ : ℝ) (j : Fin n) :
    Ideal.exp ((if P j then (s j : EReal) else ⊥) - (μ : EReal)) = ((e s P j * Real.exp (-μ) : ℝ) : EReal) := by
  unfold e
  split
  · rw [← EReal.coe_sub, Ideal.exp_coe, ← Real.exp_add, sub_eq_add_neg]
  · rw [EReal.bot_sub, Ideal.exp_bot, zero_mul, EReal.coe_zero]

end

/-- Weighing by shifted exponentials, each divided by their sum, is weighing by the exponentials and dividing once. -/
theorem attend (s : Fin n → EReal) (hs : ∀ j, Fin' (s j)) (P : Fin n → Prop) [DecidablePred P] {j₀ : Fin n} (h₀ : P j₀)
    (v : Fin n → EReal) :
    ∑ j, v j * Ideal.div
        (Ideal.exp ((if P j then s j else ⊥) - Finset.fold max ⊥ (fun k => if P k then s k else ⊥) Finset.univ))
        (∑ i, Ideal.exp ((if P i then s i else ⊥) - Finset.fold max ⊥ (fun k => if P k then s k else ⊥) Finset.univ))
      = Ideal.div (∑ j, (if P j then Ideal.exp (s j) else 0) * v j) (∑ j, if P j then Ideal.exp (s j) else 0) := by
  choose t ht using hs
  obtain rfl : s = fun j => (t j : EReal) := funext ht
  obtain ⟨μ, hμ⟩ := top_real t P h₀
  have hE : ∀ j, (if P j then Ideal.exp (t j : EReal) else 0) = ((e t P j : ℝ) : EReal) := fun j => by
    unfold e; split <;> rfl
  have hW := e_sum_pos t P h₀
  have hc := Real.exp_pos (-μ)
  simp only [hμ, exp_shift, hE, ← coe_sum]
  rw [← Finset.sum_mul]
  have hd : ∀ j, Ideal.div ((e t P j * Real.exp (-μ) : ℝ) : EReal) (((∑ i, e t P i) * Real.exp (-μ) : ℝ) : EReal)
      = ((e t P j * (∑ i, e t P i)⁻¹ : ℝ) : EReal) := fun j => by
    rw [div_real _ (mul_pos hW hc).ne', mul_div_mul_right _ _ hc.ne', div_eq_mul_inv]
  simp only [hd]
  unfold Ideal.div
  rw [if_neg (by exact_mod_cast hW.ne'), ← EReal.coe_inv, sum_mul_real _ _ (inv_nonneg.2 hW.le)]
  refine Finset.sum_congr rfl fun j _ => ?_
  rw [EReal.coe_mul, ← mul_assoc, mul_comm (v j)]

/-- A sum over the whole of an axis, taken device by device in an order of its own for either half of a device's part. -/
theorem by_halves (own : Fin 2 → Fin 8 → Fin 8) (hown : ∀ g, Function.Bijective (own g)) (F : Fin 4096 → EReal) :
    (∑ t : Fin 2048, F ⟨512 * (own 0 ⟨t.val / 256, by omega⟩).val + t.val % 256, by have := (own 0 ⟨t.val / 256, by omega⟩).isLt; omega⟩)
      + (∑ t : Fin 2048, F ⟨512 * (own 1 ⟨t.val / 256, by omega⟩).val + 256 + t.val % 256, by have := (own 1 ⟨t.val / 256, by omega⟩).isLt; omega⟩)
      = ∑ c, F c := by
  have hs : ∀ (f : Fin 8 → Fin 256 → EReal), ∑ t : Fin 2048, f ⟨t.val / 256, by omega⟩ ⟨t.val % 256, by omega⟩ = ∑ s, ∑ u, f s u := fun f => by
    rw [← Fintype.sum_prod_type' f]
    exact Fintype.sum_equiv (finProdFinEquiv (m := 8) (n := 256)).symm _ _ fun t => rfl
  have hw : ∑ c, F c = ∑ s : Fin 8, ∑ u : Fin 512, F ⟨512 * s.val + u.val, by omega⟩ := by
    rw [← Fintype.sum_prod_type' (fun (s : Fin 8) (u : Fin 512) => F ⟨512 * s.val + u.val, by omega⟩)]
    refine Fintype.sum_equiv (finProdFinEquiv (m := 8) (n := 512)).symm _ _ fun t => congrArg F (Fin.ext ?_)
    show t.val = 512 * (t.val / 512) + t.val % 512
    omega
  have hh : ∀ s : Fin 8, ∑ u : Fin 512, F ⟨512 * s.val + u.val, by omega⟩
      = (∑ u : Fin 256, F ⟨512 * s.val + u.val, by omega⟩) + ∑ u : Fin 256, F ⟨512 * s.val + 256 + u.val, by omega⟩ := fun s => by
    refine (Fin.sum_univ_add (a := 256) (b := 256) (fun u : Fin 512 => F ⟨512 * s.val + u.val, by omega⟩)).trans ?_
    refine congrArg₂ (· + ·) rfl (Finset.sum_congr rfl fun u _ => congrArg F (Fin.ext ?_))
    show 512 * s.val + (256 + u.val) = 512 * s.val + 256 + u.val
    omega
  rw [hw, Finset.sum_congr rfl fun s _ => hh s, Finset.sum_add_distrib]
  refine congrArg₂ (· + ·) ?_ ?_
  · rw [hs fun s u => F ⟨512 * (own 0 s).val + u.val, by have := (own 0 s).isLt; omega⟩]
    exact (hown 0).sum_comp fun s : Fin 8 => ∑ u : Fin 256, F ⟨512 * s.val + u.val, by omega⟩
  · rw [hs fun s u => F ⟨512 * (own 1 s).val + 256 + u.val, by have := (own 1 s).isLt; omega⟩]
    exact (hown 1).sum_comp fun s : Fin 8 => ∑ u : Fin 256, F ⟨512 * s.val + 256 + u.val, by omega⟩

end Cert.Val
-- ==== Proof.Value.Pre.lean ====
module

public import proofs.«01_k».proof.Pre_finite_KernelIdeal
public import proofs.«01_k».proof.Pre_finite_ReferenceIdeal
public import proofs.«01_k».proof.Proof.Value.Math
public import Idealize.ShloMosaic.Lib.Pointwise
public import Idealize.ShloMosaic.Lib.ReduceAll

@[expose] public section

/-! # What the precondition says of an entry -/

noncomputable section

namespace Cert.Val

open Idealize.ShloMosaic

theorem pre_facts : Cert.Pre_finite_KernelIdeal.Facts :=
  ⟨by decide, by decide, by decide, by decide, by decide, by decide, by decide⟩

theorem pre_facts_ref : Cert.Pre_finite_ReferenceIdeal.Facts :=
  ⟨by decide, by decide, by decide, by decide, by decide, by decide, by decide⟩

/-- The word of the bound is the infinite number. -/
theorem posInf : Ideal.ofBits .f32 0x7F800000#32 = (⊤ : EReal) := by
  simp [Ideal.ofBits, Ideal.ieee]

/-- A number whose size is below infinity is real. -/
theorem real_of_lt {a : EReal} (h : max a (-a) < ⊤) : Fin' a := by
  induction a with
  | bot => simp at h
  | top => simp at h
  | coe r => exact ⟨r, rfl⟩

theorem real_of_cmp {a : EReal} (h : FloatOps.cmpf (F := Ideal) (φ := .f32) .olt (FloatOps.absf (F := Ideal) (φ := .f32) a) (Ideal.ofBits .f32 0x7F800000#32) = 1#1) : Fin' a := by
  refine real_of_lt ?_
  rw [posInf] at h
  have h' : BitVec.ofBool (decide (max a (-a) < ⊤)) = 1#1 := h
  by_contra hn
  rw [decide_eq_false hn] at h'
  exact absurd h' (by decide)

open Cert.Pre_finite_KernelIdeal in
theorem pre_entries [Cert.Pre_finite_KernelIdeal.Facts] (x : FVec Ideal S2x512x768 .f32) (wq : FVec Ideal S768x512 .f32) (k v : FVec Ideal S16x512x64x64 .f32) (wo : FVec Ideal S512x768 .f32)
    (h : fn (F := Ideal) x wq k v wo = fun _ => 1#1) : (∀ i, Fin' (x i)) ∧ (∀ i, Fin' (wq i)) ∧ ∀ i, Fin' (k i) := by
  have h0 := congrFun h (fun a => a.elim0)
  dsimp only [fn] at h0
  obtain ⟨h1, hk⟩ := IntOp.andi_eq_one.1 h0
  obtain ⟨hx, hw⟩ := IntOp.andi_eq_one.1 h1
  have : Subsingleton S_.Idx := ⟨fun a b => funext fun i => i.elim0⟩
  refine ⟨fun i => ?_, fun i => ?_, fun i => ?_⟩
  · exact real_of_cmp (Host.reduce_andi_all _ _ _ _ _ hx i)
  · exact real_of_cmp (Host.reduce_andi_all _ _ _ _ _ hw i)
  · exact real_of_cmp (Host.reduce_andi_all _ _ _ _ _ hk i)

end Cert.Val
-- ==== Proof.Value.Join.lean ====
module

public import proofs.«01_k».proof.Defs
public import proofs.«01_k».proof.Proof.Value.Ref
public import proofs.«01_k».proof.Proof.Value.Kern
public import proofs.«01_k».proof.Proof.Value.Inputs
public import proofs.«01_k».proof.Proof.Value.Pre

@[expose] public section

/-! # The kernel's blocks are the blocks of the reference's result -/

noncomputable section

namespace Cert.Val

open Idealize.ShloMosaic Idealize.ShloMosaic.TcCoe
open Cert.KernelIdeal Cert.KernelIdeal.Gen Cert.KernelIdeal.St Cert.KernelIdeal.Val

abbrev X := Cert.ReferenceIdeal.Val.X
abbrev WQ := Cert.ReferenceIdeal.Val.WQ
abbrev KV := Cert.ReferenceIdeal.Val.KV
abbrev WO := Cert.ReferenceIdeal.Val.WO

/-- Batch `b` of device `c`, in the whole array. -/
def row (c : Fin 8) (b : Fin 2) : Fin 16 := ⟨2 * c.val + b.val, by omega⟩
/-- Column `u` of device `o`, in the whole array. -/
def col (o : Fin 8) (u : Fin 512) : Fin 4096 := ⟨512 * o.val + u.val, by omega⟩

/-- The kernel's launch holds the blocks of five whole arrays. -/
structure Holds (m : (ℓ : Loc nD τ sig) → Buf (Elt Ideal) ℓ) (x : X) (wq : WQ) (k v : KV) (wo : WO) : Prop where
  x : ∀ (c : Dev nD) (b : Fin 2) (i : Fin 512) (p : Fin 768), A0 m c (ix3 b i p) = x (ix3 (row c b) i p)
  wq : ∀ (c : Dev nD) (p : Fin 768) (u : Fin 512), A1 m c (ix2 p u) = wq (ix2 p (col c u))
  k : ∀ c : Dev nD, A2 m c = k
  v : ∀ c : Dev nD, A3 m c = v
  wo : ∀ (c : Dev nD) (u : Fin 512) (n : Fin 768), A4 m c (ix2 u n) = wo (ix2 (col c u) n)

variable {m : (ℓ : Loc nD τ sig) → Buf (Elt Ideal) ℓ} {x : X} {wq : WQ} {k v : KV} {wo : WO}

/-- A head's score in the kernel is the reference's. -/
theorem sc_eq (H : Holds m x wq k v wo) (c : Dev nD) (o : Fin 8) (g : Fin 2) (r : Fin 4) (b : Fin 2) (i j : Fin 512) :
    sc (inp (V₁ m)) c o g r b i j
      = Cert.ReferenceIdeal.Val.scores x wq k (ix4 (row c b) ⟨8 * o.val + 4 * g.val + r.val, by omega⟩ i j) := by
  rw [Cert.ReferenceIdeal.Val.scores_apply, ← scale (by norm_num)]
  unfold sc
  refine Finset.sum_congr rfl fun d _ => congrArg₂ (· * ·) (Finset.sum_congr rfl fun p _ => ?_) ?_
  · rw [x_apply, wq_apply, H.x, H.wq, Cert.ReferenceIdeal.Val.eighth]
    refine congrArg (fun z => x (ix3 (row c b) i p) * (wq (ix2 p z) * _)) (Fin.ext ?_)
    show 512 * o.val + (256 * g.val + (64 * r.val + d.val)) = (8 * o.val + 4 * g.val + r.val) * 64 + d.val
    omega
  · rw [k_apply, H.k]
    rfl

theorem scores_real (fx : ∀ i, Fin' (x i)) (fw : ∀ i, Fin' (wq i)) (fk : ∀ i, Fin' (k i))
    (b : Fin 16) (h : Fin 64) (i j : Fin 512) : Fin' (Cert.ReferenceIdeal.Val.scores x wq k (ix4 b h i j)) := by
  rw [Cert.ReferenceIdeal.Val.scores_apply]
  exact (Fin'.sum fun d => (Fin'.sum fun p => (fx _).mul (fw _)).mul (fk _)).mul ⟨_, rfl⟩

/-- What a query gathers in the kernel is what it gathers in the reference. -/
theorem att_eq (H : Holds m x wq k v wo) (fx : ∀ i, Fin' (x i)) (fw : ∀ i, Fin' (wq i)) (fk : ∀ i, Fin' (k i))
    (c : Dev nD) (o : Fin 8) (g : Fin 2) (r : Fin 4) (b : Fin 2) (i : Fin 512) (d : Fin 64) :
    att (inp (V₁ m)) c o g r b i d
      = ∑ j : Fin 512, v (ix4 (row c b) j ⟨8 * o.val + 4 * g.val + r.val, by omega⟩ d)
          * Cert.ReferenceIdeal.Val.weights (Cert.ReferenceIdeal.Val.expo (Cert.ReferenceIdeal.Val.masked (Cert.ReferenceIdeal.Val.scores x wq k)))
              (ix4 (row c b) ⟨8 * o.val + 4 * g.val + r.val, by omega⟩ i j) := by
  simp only [Cert.ReferenceIdeal.Val.weights_apply, Cert.ReferenceIdeal.Val.expo_apply, Cert.ReferenceIdeal.Val.masked_apply]
  refine Eq.symm ((attend (fun j => Cert.ReferenceIdeal.Val.scores x wq k (ix4 (row c b) ⟨8 * o.val + 4 * g.val + r.val, by omega⟩ i j))
    (fun j => scores_real fx fw fk _ _ _ _) (fun j : Fin 512 => j.val / 64 ≤ i.val / 64) (j₀ := 0) (Nat.zero_le _) _).trans ?_)
  unfold att wt
  simp only [sc_eq H, v_apply, H.v]
  rfl

theorem own_bij (c : Dev nD) : ∀ g : Fin 2, Function.Bijective (fun s : Fin 8 => (own g s.val c : Fin 8)) := by
  have h : ∀ (c : Fin 8) (g : Fin 2) (s t : Fin 8), own g s.val c = own g t.val c → s = t := by decide +kernel
  exact fun g => Finite.injective_iff_bijective.1 fun s t e => h c g s t e

theorem out_eq (H : Holds m x wq k v wo) (fx : ∀ i, Fin' (x i)) (fw : ∀ i, Fin' (wq i)) (fk : ∀ i, Fin' (k i))
    (c : Dev nD) (b : Fin 2) (i : Fin 512) (n : Fin 768) :
    outI (inp (V₁ m)) c (ix3 b i n)
      = Cert.ReferenceIdeal.Val.result (Cert.ReferenceIdeal.Val.weights (Cert.ReferenceIdeal.Val.expo (Cert.ReferenceIdeal.Val.masked (Cert.ReferenceIdeal.Val.scores x wq k))))
          v wo (ix3 (row c b) i n) := by
  rw [Cert.ReferenceIdeal.Val.result_apply, ← by_halves (fun g s => own g s.val c) (own_bij c), outI_apply]
  refine congrArg₂ (· + ·) (Finset.sum_congr rfl fun t _ => ?_) (Finset.sum_congr rfl fun t _ => ?_)
  · rw [att_eq H fx fw fk, wo_apply, H.wo]
    have ho : (own 0 (t.val / 256) c).val < 8 := (own 0 (t.val / 256) c).isLt
    have h1 : (512 * (own 0 (t.val / 256) c).val + t.val % 256) / 64 = 8 * (own 0 (t.val / 256) c).val + 4 * 0 + t.val % 256 / 64 := by omega
    have h2 : (512 * (own 0 (t.val / 256) c).val + t.val % 256) % 64 = t.val % 64 := by omega
    refine congrArg₂ (· * ·) (Finset.sum_congr rfl fun j _ => ?_) ?_
    · simp only [h1, h2]
      rfl
    · refine congrArg (fun z => wo (ix2 z n)) (Fin.ext ?_)
      show 512 * (own 0 (t.val / 256) c).val + (256 * 0 + t.val % 256) = 512 * (own 0 (t.val / 256) c).val + t.val % 256
      omega
  · rw [att_eq H fx fw fk, wo_apply, H.wo]
    have ho : (own 1 (t.val / 256) c).val < 8 := (own 1 (t.val / 256) c).isLt
    have h1 : (512 * (own 1 (t.val / 256) c).val + 256 + t.val % 256) / 64 = 8 * (own 1 (t.val / 256) c).val + 4 * 1 + t.val % 256 / 64 := by omega
    have h2 : (512 * (own 1 (t.val / 256) c).val + 256 + t.val % 256) % 64 = t.val % 64 := by omega
    refine congrArg₂ (· * ·) (Finset.sum_congr rfl fun j _ => ?_) ?_
    · simp only [h1, h2]
      rfl
    · refine congrArg (fun z => wo (ix2 z n)) (Fin.ext ?_)
      show 512 * (own 1 (t.val / 256) c).val + (256 * 1 + t.val % 256) = 512 * (own 1 (t.val / 256) c).val + 256 + t.val % 256
      omega

/-! ## From the claim's hypotheses -/

theorem holds_of (x : X) (wq : WQ) (k v : KV) (wo : WO)
    (h : ∀ c : Dev nD, A0 m c = Layout.block ⟨3, ![2, 512, 768]⟩ ⟨3, ![16, 512, 768]⟩ 0 8 c x
      ∧ A1 m c = Layout.block ⟨2, ![768, 512]⟩ ⟨2, ![768, 4096]⟩ 1 8 c wq
      ∧ A2 m c = k ∧ A3 m c = v
      ∧ A4 m c = Layout.block ⟨2, ![512, 768]⟩ ⟨2, ![4096, 768]⟩ 0 8 c wo) : Holds m x wq k v wo where
  x c b i p := (congrFun (h c).1 _).trans (congrArg x (funext fun a => Fin.ext (by
    match a with
    | 0 => show c.val * 2 + b.val = 2 * c.val + b.val; omega
    | 1 => rfl
    | 2 => rfl)))
  wq c p u := (congrFun (h c).2.1 _).trans (congrArg wq (funext fun a => Fin.ext (by
    match a with
    | 0 => rfl
    | 1 => show c.val * 512 + u.val = 512 * c.val + u.val; omega)))
  k c := (h c).2.2.1
  v c := (h c).2.2.2.1
  wo c u n := (congrFun (h c).2.2.2.2 _).trans (congrArg wo (funext fun a => Fin.ext (by
    match a with
    | 0 => show c.val * 512 + u.val = 512 * c.val + u.val; omega
    | 1 => rfl)))

/-- Where every device's arguments are finite, the whole arrays are. -/
theorem all_real [Cert.Pre_finite_KernelIdeal.Facts] (H : Holds m x wq k v wo) (hp : Cert.Pre_KernelIdeal_finite_KernelIdeal m) :
    (∀ i, Fin' (x i)) ∧ (∀ i, Fin' (wq i)) ∧ ∀ i, Fin' (k i) := by
  have hf : ∀ c : Dev nD, (∀ i, Fin' (A0 m c i)) ∧ (∀ i, Fin' (A1 m c i)) ∧ ∀ i, Fin' (A2 m c i) := fun c =>
    pre_entries _ _ _ _ _ (hp c)
  refine ⟨fun i => ?_, fun i => ?_, ?_⟩
  · have h0 : (i 0).val < 16 := (i 0).isLt
    have e := H.x (⟨(i 0).val / 2, by omega⟩ : Fin 8) ⟨(i 0).val % 2, by omega⟩ (i 1) (i 2)
    have hi : ix3 (row ⟨(i 0).val / 2, by omega⟩ ⟨(i 0).val % 2, by omega⟩) (i 1) (i 2) = i := funext fun a => Fin.ext (by
      match a with
      | 0 => show 2 * ((i 0).val / 2) + (i 0).val % 2 = (i 0).val; omega
      | 1 => rfl
      | 2 => rfl)
    rw [← (e.trans (congrArg x hi))]
    exact (hf _).1 _
  · have h1 : (i 1).val < 4096 := (i 1).isLt
    have e := H.wq (⟨(i 1).val / 512, by omega⟩ : Fin 8) (i 0) ⟨(i 1).val % 512, by omega⟩
    have hi : ix2 (i 0) (col ⟨(i 1).val / 512, by omega⟩ ⟨(i 1).val % 512, by omega⟩) = i := funext fun a => Fin.ext (by
      match a with
      | 0 => rfl
      | 1 => show 512 * ((i 1).val / 512) + (i 1).val % 512 = (i 1).val; omega)
    rw [← (e.trans (congrArg wq hi))]
    exact (hf _).2.1 _
  · have h := (hf (0 : Fin 8)).2.2
    rw [H.k] at h
    exact h

/-- The kernel's blocks, as the claim says them. -/
theorem out_block (H : Holds m x wq k v wo) (fx : ∀ i, Fin' (x i)) (fw : ∀ i, Fin' (wq i)) (fk : ∀ i, Fin' (k i)) (c : Dev nD) :
    outI (inp (V₁ m)) c = Layout.block ⟨3, ![2, 512, 768]⟩ ⟨3, ![16, 512, 768]⟩ 0 8 c
      (Cert.ReferenceIdeal.Val.result (Cert.ReferenceIdeal.Val.weights (Cert.ReferenceIdeal.Val.expo (Cert.ReferenceIdeal.Val.masked (Cert.ReferenceIdeal.Val.scores x wq k)))) v wo) := by
  funext i
  have hi : ix3 (i 0) (i 1) (i 2) = i := funext fun a => by match a with | 0 => rfl | 1 => rfl | 2 => rfl
  refine ((congrArg _ hi.symm).trans (out_eq H fx fw fk c (i 0) (i 1) (i 2))).trans (congrArg _ (funext fun a => Fin.ext ?_))
  match a with
  | 0 => show 2 * c.val + (i 0).val = c.val * 2 + (i 0).val; omega
  | 1 => rfl
  | 2 => rfl

theorem algebraic [Cert.Pre_finite_KernelIdeal.Facts] :
    Cert.algebraic_KernelIdeal_ReferenceIdeal_pre_finite_KernelIdeal := by
  intro m g m' g' hp h
  have H := holds_of (m := m) _ _ _ _ _ h
  obtain ⟨fx, fw, fk⟩ := all_real H hp
  refine ⟨Cert.ReferenceIdeal.Value.res_main_v33 m' 0, (θ_run _ _ _).mono (fun r hr c => ?_) (run_all m g),
    (θ_run _ _ _).mono (fun r hr => hr 0) (Cert.ReferenceIdeal.Value.run m' g')⟩
  refine ⟨(hr.1 c).1.trans ?_, (hr.1 c).2⟩
  rw [Cert.ReferenceIdeal.Val.res_eq]
  exact out_block H fx fw fk c

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Start
public import proofs.«01_k».proof.Proof.Ideal.Start
public import proofs.«01_k».proof.Proof.Value.Join
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g _ =>
  (θ_run _ _ _).mono (fun _ h => ⟨fun c => (h.1 c).2, h.2⟩) (Cert.Kernel.St.run_all m g)
theorem frame_kernelIdeal : Cert.quiescent_KernelIdeal := fun m g _ =>
  (θ_run _ _ _).mono (fun _ h => ⟨fun c => (h.1 c).2, h.2⟩) (Cert.KernelIdeal.St.run_all m g)
theorem frame_referenceIdeal : Cert.quiescent_ReferenceIdeal := fun m g _ =>
  (θ_run _ _ _).mono (fun _ h => ⟨fun c => (h c).2, sem_eq_zero_of_no_sems (by decide) _⟩) (Cert.ReferenceIdeal.Value.run m g)

theorem frame_kernelIdeal_pre [Cert.Pre_finite_KernelIdeal.Facts] : Cert.quiescent_KernelIdeal_pre_finite_KernelIdeal :=
  fun m g _ => frame_kernelIdeal m g trivial
theorem frame_referenceIdeal_pre [Cert.Pre_finite_ReferenceIdeal.Facts] : Cert.quiescent_ReferenceIdeal_pre_finite_ReferenceIdeal :=
  fun m g _ => frame_referenceIdeal m g trivial

theorem claim : Cert.Claim := ⟨Cert.Kernel.Gen.facts, Cert.KernelIdeal.Gen.facts, Cert.ReferenceIdeal.Gen.facts,
  Cert.Val.pre_facts, Cert.Val.pre_facts_ref,
  frame_kernel, frame_kernelIdeal,
  @frame_kernelIdeal_pre Cert.Val.pre_facts, frame_referenceIdeal, @frame_referenceIdeal_pre Cert.Val.pre_facts_ref,
  trivial, @Cert.Val.algebraic Cert.Val.pre_facts⟩

end Cert.Proof

end
